-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S16x64x64 : Shape := ⟨3, ![16, 64, 64]⟩
abbrev S16x64x16x64 : Shape := ⟨4, ![16, 64, 16, 64]⟩
abbrev S1024x1024 : Shape := ⟨2, ![1024, 1024]⟩
abbrev S1024 : Shape := ⟨1, ![1024]⟩
abbrev S_ : Shape := ⟨0, ![]⟩

class Facts : Prop where
  bcast_S_S1x2048x1024 : S_.BroadcastsInDim S1x2048x1024 (![] : Fin 0 → Fin S1x2048x1024.rank)
  bcast_S_S16x64x64 : S_.BroadcastsInDim S16x64x64 (![] : Fin 0 → Fin S16x64x64.rank)
  bcast_S_S16x64x16x64 : S_.BroadcastsInDim S16x64x16x64 (![] : Fin 0 → Fin S16x64x16x64.rank)

variable [Facts]

def fn {F : FTy → Type} [FloatOps F] (main_arg0 : FVec F S1x2048x1024 .f32) (main_arg1 : FVec F S16x64x64 .f32) (main_arg2 : FVec F S16x64x64 .f32) (main_arg3 : FVec F S16x64x16x64 .f32) (main_arg4 : FVec F S16x64x16x64 .f32) (main_arg5 : FVec F S1024x1024 .f32) (main_arg6 : FVec F S1024 .f32) : IVec S1x2048x1024 1 × IVec S16x64x64 1 × IVec S16x64x64 1 × IVec S16x64x16x64 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S16x64x64 .f32 := Host.absf main_arg1
  let main_cst_0 : FVec F S_ .f32 := constant S_ .f32 0x7F800000#32
  let main_v4 : FVec F S16x64x64 .f32 := broadcastInDim S16x64x64 ![] bcast_S_S16x64x64 main_cst_0
  let main_v5 : IVec S16x64x64 1 := cmpf .olt main_v3 main_v4
  let main_v6 : FVec F S16x64x64 .f32 := Host.absf main_arg2
  let main_cst_1 : FVec F S_ .f32 := constant S_ .f32 0x7F800000#32
  let main_v7 : FVec F S16x64x64 .f32 := broadcastInDim S16x64x64 ![] bcast_S_S16x64x64 main_cst_1
  let main_v8 : IVec S16x64x64 1 := cmpf .olt main_v6 main_v7
  let main_v9 : FVec F S16x64x16x64 .f32 := Host.absf main_arg3
  let main_cst_2 : FVec F S_ .f32 := constant S_ .f32 0x7F800000#32
  let main_v10 : FVec F S16x64x16x64 .f32 := broadcastInDim S16x64x16x64 ![] bcast_S_S16x64x16x64 main_cst_2
  let main_v11 : IVec S16x64x16x64 1 := cmpf .olt main_v9 main_v10
  (main_v2, main_v5, main_v8, main_v11)
-- ==== Kernel.lean ====
abbrev S1x2048x1024 : Shape := ⟨3, ![1, 2048, 1024]⟩
abbrev S16x64x64 : Shape := ⟨3, ![16, 64, 64]⟩
abbrev S16x64x16x64 : Shape := ⟨4, ![16, 64, 16, 64]⟩
abbrev S1024x1024 : Shape := ⟨2, ![1024, 1024]⟩
abbrev S1024 : Shape := ⟨1, ![1024]⟩
abbrev S2048x1024 : Shape := ⟨2, ![2048, 1024]⟩
abbrev S16x16x64x64 : Shape := ⟨4, ![16, 16, 64, 64]⟩
abbrev S16x1024x64 : Shape := ⟨3, ![16, 1024, 64]⟩
abbrev S_ : Shape := ⟨0, ![]⟩
abbrev S16x64x1024 : Shape := ⟨3, ![16, 64, 1024]⟩
abbrev S1x1024 : Shape := ⟨2, ![1, 1024]⟩
abbrev S64x1024 : Shape := ⟨2, ![64, 1024]⟩
abbrev S1x64x64 : Shape := ⟨3, ![1, 64, 64]⟩
abbrev S64x64 : Shape := ⟨2, ![64, 64]⟩
abbrev S1x1024x64 : Shape := ⟨3, ![1, 1024, 64]⟩
abbrev S1024x64 : Shape := ⟨2, ![1024, 64]⟩
abbrev S1x64x1024 : Shape := ⟨3, ![1, 64, 1024]⟩

abbrev nBuf : Space → Nat
  | .hbm => 25
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S16x64x64, .f32⟩
  | .hbm, ⟨2, _⟩ => ⟨S16x64x64, .f32⟩
  | .hbm, ⟨3, _⟩ => ⟨S16x64x16x64, .f32⟩
  | .hbm, ⟨4, _⟩ => ⟨S16x64x16x64, .f32⟩
  | .hbm, ⟨5, _⟩ => ⟨S1024x1024, .f32⟩
  | .hbm, ⟨6, _⟩ => ⟨S1024, .f32⟩
  | .hbm, ⟨7, _⟩ => ⟨S2048x1024, .f32⟩
  | .hbm, ⟨8, _⟩ => ⟨S16x64x64, .f32⟩
  | .hbm, ⟨9, _⟩ => ⟨S16x16x64x64, .f32⟩
  | .hbm, ⟨10, _⟩ => ⟨S16x1024x64, .f32⟩
  | .hbm, ⟨11, _⟩ => ⟨S16x1024x64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S16x1024x64, .f32⟩
  | .hbm, ⟨17, _⟩ => ⟨S16x1024x64, .f32⟩
  | .hbm, ⟨18, _⟩ => ⟨S16x1024x64, .bf16⟩
  | .hbm, ⟨19, _⟩ => ⟨S16x64x16x64, .f32⟩
  | .hbm, ⟨20, _⟩ => ⟨S16x64x1024, .f32⟩
  | .hbm, ⟨21, _⟩ => ⟨S16x64x1024, .bf16⟩
  | .hbm, ⟨22, _⟩ => ⟨S1024x1024, .bf16⟩
  | .hbm, ⟨23, _⟩ => ⟨S1x1024, .f32⟩
  | .hbm, ⟨24, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S16x64x64, .f32⟩
  | .local _ .vmem, ⟨3, _⟩ => ⟨S16x1024x64, .bf16⟩
  | .local _ .vmem, ⟨4, _⟩ => ⟨S16x64x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x2048x1024 : Shape := ⟨3, ![1, 2048, 1024]⟩
abbrev S16x64x64 : Shape := ⟨3, ![16, 64, 64]⟩
abbrev S16x64x16x64 : Shape := ⟨4, ![16, 64, 16, 64]⟩
abbrev S1024x1024 : Shape := ⟨2, ![1024, 1024]⟩
abbrev S1024 : Shape := ⟨1, ![1024]⟩
abbrev S1x2048x16x64 : Shape := ⟨4, ![1, 2048, 16, 64]⟩
abbrev S1x16x2048x64 : Shape := ⟨4, ![1, 16, 2048, 64]⟩
abbrev S16x64x1x2048 : Shape := ⟨4, ![16, 64, 1, 2048]⟩
abbrev S1x16x2048x2 : Shape := ⟨4, ![1, 16, 2048, 2]⟩
abbrev S_ : Shape := ⟨0, ![]⟩
abbrev S1x16x2048 : Shape := ⟨3, ![1, 16, 2048]⟩
abbrev S1x16x2048x1 : Shape := ⟨4, ![1, 16, 2048, 1]⟩
abbrev S16x64x16x1x2048 : Shape := ⟨5, ![16, 64, 16, 1, 2048]⟩
abbrev S1x16x2048x64x16 : Shape := ⟨5, ![1, 16, 2048, 64, 16]⟩
abbrev S1x16x2048x2x1 : Shape := ⟨5, ![1, 16, 2048, 2, 1]⟩
abbrev S16x2048x2x1 : Shape := ⟨4, ![16, 2048, 2, 1]⟩
abbrev S1 : Shape := ⟨1, ![1]⟩
abbrev S1x1x1x1 : Shape := ⟨4, ![1, 1, 1, 1]⟩
abbrev S16x2048x2 : Shape := ⟨3, ![16, 2048, 2]⟩
abbrev S1x16x2048x2x16 : Shape := ⟨5, ![1, 16, 2048, 2, 16]⟩
abbrev S1x1x1x1x64 : Shape := ⟨5, ![1, 1, 1, 1, 64]⟩
abbrev S1x16x2048x2x64 : Shape := ⟨5, ![1, 16, 2048, 2, 64]⟩
abbrev S1x1x1024 : Shape := ⟨3, ![1, 1, 1024]⟩
abbrev S2048x1024 : Shape := ⟨2, ![2048, 1024]⟩

abbrev nBuf : Space → Nat
  | .hbm => 93
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S16x64x64, .f32⟩
  | .hbm, ⟨2, _⟩ => ⟨S16x64x64, .f32⟩
  | .hbm, ⟨3, _⟩ => ⟨S16x64x16x64, .f32⟩
  | .hbm, ⟨4, _⟩ => ⟨S16x64x16x64, .f32⟩
  | .hbm, ⟨5, _⟩ => ⟨S1024x1024, .f32⟩
  | .hbm, ⟨6, _⟩ => ⟨S1024, .f32⟩
  | .hbm, ⟨7, _⟩ => ⟨S1x2048x16x64, .f32⟩
  | .hbm, ⟨8, _⟩ => ⟨S1x16x2048x64, .f32⟩
  | .hbm, ⟨9, _⟩ => ⟨S16x64x1x2048, .f32⟩
  | .hbm, ⟨10, _⟩ => ⟨S1x16x2048x64, .f32⟩
  | .hbm, ⟨11, _⟩ => ⟨S16x64x1x2048, .f32⟩
  | .hbm, ⟨12, _⟩ => ⟨S1x16x2048x64, .f32⟩
  | .hbm, ⟨13, _⟩ => ⟨S1x16x2048x2, .f32⟩
  | .hbm, ⟨14, _⟩ => ⟨S1x16x2048x2, .i32⟩
  | .hbm, ⟨15, _⟩ => ⟨S_, .f32⟩
  | .hbm, ⟨16, _⟩ => ⟨S1x16x2048, .f32⟩
  | .hbm, ⟨17, _⟩ => ⟨S_, .f32⟩
  | .hbm, ⟨18, _⟩ => ⟨S1x16x2048, .f32⟩
  | .hbm, ⟨19, _⟩ => ⟨S1x16x2048, .f32⟩
  | .hbm, ⟨20, _⟩ => ⟨S1x16x2048x1, .f32⟩
  | .hbm, ⟨21, _⟩ => ⟨S1x16x2048x2, .f32⟩
  | .hbm, ⟨22, _⟩ => ⟨S1x16x2048x2, .f32⟩
  | .hbm, ⟨23, _⟩ => ⟨S1x16x2048x2, .f32⟩
  | .hbm, ⟨24, _⟩ => ⟨S_, .f32⟩
  | .hbm, ⟨25, _⟩ => ⟨S1x16x2048, .f32⟩
  | .hbm, ⟨26, _⟩ => ⟨S1x16x2048x1, .f32⟩
  | .hbm, ⟨27, _⟩ => ⟨S1x16x2048x2, .f32⟩
  | .hbm, ⟨28, _⟩ => ⟨S1x16x2048x2, .f32⟩
  | .hbm, ⟨29, _⟩ => ⟨S16x64x16x1x2048, .f32⟩
  | .hbm, ⟨30, _⟩ => ⟨S1x16x2048x64x16, .f32⟩
  | .hbm, ⟨31, _⟩ => ⟨S_, .f32⟩
  | .hbm, ⟨32, _⟩ => ⟨S_, .f32⟩
  | .hbm, ⟨33, _⟩ => ⟨S1x16x2048x64x16, .f32⟩
  | .hbm, ⟨34, _⟩ => ⟨S1x16x2048x64x16, .f32⟩
  | .hbm, ⟨35, _⟩ => ⟨S1x16x2048x2x1, .i32⟩
  | .hbm, ⟨36, _⟩ => ⟨S_, .i32⟩
  | .hbm, ⟨37, _⟩ => ⟨S1x16x2048x2x1, .i32⟩
  | .hbm, ⟨38, _⟩ => ⟨S1x16x2048x2x1, .i1⟩
  | .hbm, ⟨39, _⟩ => ⟨S_, .i32⟩
  | .hbm, ⟨40, _⟩ => ⟨S1x16x2048x2x1, .i32⟩
  | .hbm, ⟨41, _⟩ => ⟨S1x16x2048x2x1, .i32⟩
  | .hbm, ⟨42, _⟩ => ⟨S1x16x2048x2x1, .i32⟩
  | .hbm, ⟨43, _⟩ => ⟨S16x2048x2x1, .i32⟩
  | .hbm, ⟨44, _⟩ => ⟨S1, .i32⟩
  | .hbm, ⟨45, _⟩ => ⟨S_, .i32⟩
  | .hbm, ⟨46, _⟩ => ⟨S16x2048x2x1, .i32⟩
  | .hbm, ⟨47, _⟩ => ⟨S16x2048x2x1, .i1⟩
  | .hbm, ⟨48, _⟩ => ⟨S1x1x1x1, .i32⟩
  | .hbm, ⟨49, _⟩ => ⟨S16x2048x2x1, .i32⟩
  | .hbm, ⟨50, _⟩ => ⟨S16x2048x2x1, .i1⟩
  | .hbm, ⟨51, _⟩ => ⟨S16x2048x2x1, .i1⟩
  | .hbm, ⟨52, _⟩ => ⟨S_, .i1⟩
  | .hbm, ⟨53, _⟩ => ⟨S16x2048x2, .i1⟩
  | .hbm, ⟨54, _⟩ => ⟨S1x16x2048x2x16, .f32⟩
  | .hbm, ⟨55, _⟩ => ⟨S1x16x2048x2x16, .i1⟩
  | .hbm, ⟨56, _⟩ => ⟨S_, .f32⟩
  | .hbm, ⟨57, _⟩ => ⟨S1x16x2048x2x16, .f32⟩
  | .hbm, ⟨58, _⟩ => ⟨S1x16x2048x2x16, .f32⟩
  | .hbm, ⟨59, _⟩ => ⟨S_, .f32⟩
  | .hbm, ⟨60, _⟩ => ⟨S1x16x2048x2, .f32⟩
  | .hbm, ⟨61, _⟩ => ⟨S_, .f32⟩
  | .hbm, ⟨62, _⟩ => ⟨S1x16x2048x2, .f32⟩
  | .hbm, ⟨63, _⟩ => ⟨S1x16x2048x2, .f32⟩
  | .hbm, ⟨64, _⟩ => ⟨S1x16x2048x2x1, .f32⟩
  | .hbm, ⟨65, _⟩ => ⟨S1x16x2048x2x16, .f32⟩
  | .hbm, ⟨66, _⟩ => ⟨S1x16x2048x2x16, .f32⟩
  | .hbm, ⟨67, _⟩ => ⟨S1x16x2048x2x16, .f32⟩
  | .hbm, ⟨68, _⟩ => ⟨S_, .f32⟩
  | .hbm, ⟨69, _⟩ => ⟨S1x16x2048x2, .f32⟩
  | .hbm, ⟨70, _⟩ => ⟨S1x16x2048x2x1, .f32⟩
  | .hbm, ⟨71, _⟩ => ⟨S1x16x2048x2x16, .f32⟩
  | .hbm, ⟨72, _⟩ => ⟨S1x16x2048x2x16, .f32⟩
  | .hbm, ⟨73, _⟩ => ⟨S1x16x2048x2x1, .f32⟩
  | .hbm, ⟨74, _⟩ => ⟨S1x16x2048x2x16, .f32⟩
  | .hbm, ⟨75, _⟩ => ⟨S1x16x2048x2x16, .f32⟩
  | .hbm, ⟨76, _⟩ => ⟨S1x16x2048x2x1, .i32⟩
  | .hbm, ⟨77, _⟩ => ⟨S1x1x1x1x64, .i32⟩
  | .hbm, ⟨78, _⟩ => ⟨S1x16x2048x2x64, .i32⟩
  | .hbm, ⟨79, _⟩ => ⟨S1x16x2048x2x64, .i32⟩
  | .hbm, ⟨80, _⟩ => ⟨S1x16x2048x2x64, .i1⟩
  | .hbm, ⟨81, _⟩ => ⟨S1x16x2048x2x64, .f32⟩
  | .hbm, ⟨82, _⟩ => ⟨S1x16x2048x64x16, .f32⟩
  | .hbm, ⟨83, _⟩ => ⟨S16x64x1x2048, .f32⟩
  | .hbm, ⟨84, _⟩ => ⟨S1x16x2048x64, .f32⟩
  | .hbm, ⟨85, _⟩ => ⟨S1x2048x16x64, .f32⟩
  | .hbm, ⟨86, _⟩ => ⟨S1x2048x1024, .f32⟩
  | .hbm, ⟨87, _⟩ => ⟨S1024x1024, .f32⟩
  | .hbm, ⟨88, _⟩ => ⟨S1x2048x1024, .f32⟩
  | .hbm, ⟨89, _⟩ => ⟨S1x1x1024, .f32⟩
  | .hbm, ⟨90, _⟩ => ⟨S1x2048x1024, .f32⟩
  | .hbm, ⟨91, _⟩ => ⟨S1x2048x1024, .f32⟩
  | .hbm, ⟨92, _⟩ => ⟨S2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_values : Ref sig .tc := ⟨.hbm, 13, rfl⟩
abbrev main_indices : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_c : Ref sig .tc := ⟨.hbm, 36, rfl⟩
abbrev main_call0_v0 : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_c_1 : Ref sig .tc := ⟨.hbm, 44, rfl⟩
abbrev main_call0_c_2 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_3 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_call0_cst : Ref sig .tc := ⟨.hbm, 56, rfl⟩
abbrev main_call0_v15 : Ref sig .tc := ⟨.hbm, 57, rfl⟩
abbrev main_v23 : Ref sig .tc := ⟨.hbm, 58, rfl⟩
abbrev main_cst_3 : Ref sig .tc := ⟨.hbm, 59, rfl⟩
abbrev main_v24 : Ref sig .tc := ⟨.hbm, 60, rfl⟩
abbrev main_cst_4 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_5 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩

abbrev nD : Nat := 1
abbrev τ : Topo := Topo.v7x

variable {F : FTy → Type} [FloatOps F]
-- ==== Proof.Heads.lean ====
/-
  One head of the kernel's block, as functions of the arrays that it reads: the router's logits of a block of 1024
  tokens, the two largest logits of each token and their rows, the gates, the scores, and the head's 64 output rows.
  The kernel writes this computation out sixteen times; here it is stated once, and `out0_6_eq` says that what the
  body stores is the sixteen heads stacked, multiplied by the output matrix, plus the bias.
-/
module

public import proofs.«01_k».proof.Proof.Gen.KernelIdeal.Frame

@[expose] public section

set_option maxRecDepth 16384

noncomputable section

namespace Cert.Heads

open Idealize.ShloMosaic Cert.KernelIdeal Cert.KernelIdeal.Gen

variable {F : FTy → Type} [FloatOps F]

/-- The row number of every entry of a block of 64 rows. -/
def rowNum : IVec S64x1024 32 := iota .tc S64x1024 32 [0] iota_S64x1024_d0_w32

/-- The router's logits of one head: its 64 by 64 matrix times the head's 64 rows of the transposed tokens. -/
def logits (xs : FVec F S64x1024 .f32) (w : Vec F S1x64x64 .f32) : FVec F S64x1024 .f32 :=
  matmul dot_S64x64_S64x1024_S64x1024_1_0_0_1_n_n none (shapeCast S64x64 w shapeCasts_S1x64x64_S64x64) xs
    (constant S64x1024 .f32 0x00000000#32)

/-- The largest entry of each column. -/
def colMax (l : FVec F S64x1024 .f32) : FVec F S1x1024 .f32 :=
  shapeCast S1x1024 (multiReduction .maximumf [0] S1024 l 0xFF800000#32 reduces_S64x1024_S1024 (.inl rfl) rfl)
    shapeCasts_S1024_S1x1024

/-- Marks, in each column, the first row that holds the column's largest entry. -/
def isFirst (l : FVec F S64x1024 .f32) : IVec S64x1024 1 :=
  cmpi .eq rowNum (broadcastTo S64x1024 (shapeCast S1x1024 (multiReductionI .minsi [0] S1024
    (select (cmpf .oeq l (broadcastTo S64x1024 (colMax l) broadcasts_S1x1024_S64x1024)) rowNum (broadcast S64x1024 64#32))
    2147483647#32 reduces_S64x1024_S1024 rfl) shapeCasts_S1024_S1x1024) broadcasts_S1x1024_S64x1024)

/-- The logits with each column's first largest entry overwritten by minus infinity. -/
def others (l : FVec F S64x1024 .f32) : FVec F S64x1024 .f32 :=
  select (isFirst l) (broadcast S64x1024 (Scalar.ofBits .f32 0xFF800000#32)) l

/-- The exponential of the second largest logit less the largest. -/
def second (l : FVec F S64x1024 .f32) : FVec F S1x1024 .f32 :=
  exp (subf (colMax (others l)) (colMax l))

/-- The gates before they are normalised: 1 at the first row, `second` at the second, 0 at every other. -/
def gates (l : FVec F S64x1024 .f32) : FVec F S64x1024 .f32 :=
  addf (select (isFirst l) (broadcast S64x1024 (Scalar.ofBits .f32 0x3F800000#32))
      (broadcast S64x1024 (Scalar.ofBits .f32 0x00000000#32)))
    (select (isFirst (others l))
      (broadcastTo S64x1024 (shapeCast S1x1024 (second l) shapeCasts_S1x1024_S1x1024) broadcasts_S1x1024_S64x1024)
      (broadcast S64x1024 (Scalar.ofBits .f32 0x00000000#32)))

/-- The exponentials of the scores, by slot, expert and token. -/
def expScores (xb : FVec F S64x1024 .bf16) (sk : Vec F S1x1024x64 .bf16) : FVec F S16x64x1024 .bf16 :=
  shapeCast S16x64x1024 (truncf .bf16 (exp (matmul dot_S1024x64_S64x1024_S1024x1024_1_0_0_1_n_n none
    (shapeCast S1024x64 sk shapeCasts_S1x1024x64_S1024x64) xb (constant S1024x1024 .f32 0x00000000#32)))
    bitsLt_bf16_f32) shapeCasts_S1024x1024_S16x64x1024

/-- The sum of the exponentials over an expert's slots. -/
def denom (ex : FVec F S16x64x1024 .bf16) : FVec F S64x1024 .f32 :=
  extf .f32 (truncf .bf16 (multiReduction .add [0] S64x1024 (extf .f32 ex bitsLt_bf16_f32) 0x00000000#32
    reduces_S16x64x1024_S64x1024 (.inl rfl) rfl) bitsLt_bf16_f32) bitsLt_bf16_f32

/-- The weight of every slot of every expert: its exponential times the expert's gate over both normalisers. -/
def weights (l : FVec F S64x1024 .f32) (ex : FVec F S16x64x1024 .bf16) : FVec F S1024x1024 .bf16 :=
  shapeCast S1024x1024 (mulf ex (broadcastTo S16x64x1024 (shapeCast S1x64x1024 (truncf .bf16
    (divf (gates l) (mulf (broadcastTo S64x1024 (addf (broadcast S1x1024 (Scalar.ofBits .f32 0x3F800000#32)) (second l))
      broadcasts_S1x1024_S64x1024) (denom ex))) bitsLt_bf16_f32) shapeCasts_S64x1024_S1x64x1024)
    broadcasts_S1x64x1024_S16x64x1024)) shapeCasts_S16x64x1024_S1024x1024

/-- One head's 64 output rows: the values, by coordinate and slot, times the weights. -/
def headOut (xs : FVec F S64x1024 .f32) (xb : FVec F S64x1024 .bf16) (w : Vec F S1x64x64 .f32)
    (sk : Vec F S1x1024x64 .bf16) (sv : Vec F S1x64x1024 .bf16) : FVec F S64x1024 .f32 :=
  matmul dot_S64x1024_S1024x1024_S64x1024_1_0_0_1_n_n none (shapeCast S64x1024 sv shapeCasts_S1x64x1024_S64x1024)
    (weights (logits xs w) (expScores xb sk)) (constant S64x1024 .f32 0x00000000#32)

/-- A block of 64 rows starting at row `64 h` lies within the 1024 rows. -/
theorem slices (h : Fin 16) : S1024x1024.Slices ![64 * h.val, 0] S64x1024 := by
  revert h; decide

/-- The slab `h` of a stack of sixteen matrices lies within the stack. -/
theorem slab_inb {a b : Nat} (h : Fin 16) : ∀ i : Fin 3, (![h.val, 0, 0] : Fin 3 → Nat) i + (![1, a, b] : Fin 3 → Nat) i
    ≤ (![16, a, b] : Fin 3 → Nat) i := by
  intro i
  match i with
  | ⟨0, _⟩ => exact h.isLt
  | ⟨1, _⟩ => exact (Nat.zero_add a).le
  | ⟨2, _⟩ => exact (Nat.zero_add b).le

/-- Slab `h` of a stack of sixteen matrices, as a stack of one. -/
def slab {α : EltTy} {a b : Nat} (x : Vec F ⟨3, ![16, a, b]⟩ α) (h : Fin 16) : Vec F ⟨3, ![1, a, b]⟩ α :=
  View.ld x (Rect.unit (s := ⟨3, ![16, a, b]⟩) ![h.val, 0, 0] ![1, a, b] (slab_inb h))

/-- Head `h`'s output rows, from the transposed block of tokens and the whole stacks. -/
def head (xt : FVec F S1024x1024 .f32) (x1 : Vec F S16x64x64 .f32) (x2 : Vec F S16x1024x64 .bf16)
    (x3 : Vec F S16x64x1024 .bf16) (h : Fin 16) : FVec F S64x1024 .f32 :=
  headOut (extractStridedSlice S64x1024 ![64 * h.val, 0] xt (slices h))
    (extractStridedSlice S64x1024 ![64 * h.val, 0] (truncf .bf16 xt bitsLt_bf16_f32) (slices h))
    (slab x1 h) (slab x2 h) (slab x3 h)

/-- The sixteen shapes of the stacked heads fill the 1024 rows. -/
theorem heads_fill (f : Fin 16 → FVec F S64x1024 .f32) : Shape.Concatenates
    ((List.ofFn fun h : Fin 16 => (⟨S64x1024, f h⟩ : (s : Shape) × (s.Idx → F .f32))).map (·.1)) S1024x1024 0 :=
  concatenates_S64x1024_S64x1024_S64x1024_S64x1024_S64x1024_S64x1024_S64x1024_S64x1024_S64x1024_S64x1024_S64x1024_S64x1024_S64x1024_S64x1024_S64x1024_S64x1024_S1024x1024_d0

/-- The block of 1024 result rows: the stacked heads, transposed, times the output matrix, plus the bias. -/
def body (x0 : Vec F S1024x1024 .f32) (x1 : Vec F S16x64x64 .f32) (x2 : Vec F S16x1024x64 .bf16)
    (x3 : Vec F S16x64x1024 .bf16) (x4 : Vec F S1024x1024 .bf16) (x5 : Vec F S1x1024 .f32) : FVec F S1024x1024 .f32 :=
  addf (matmul dot_S1024x1024_S1024x1024_S1024x1024_0_1_1_0_n_n none
      (truncf .bf16 (concatenate S1024x1024 0 (List.ofFn fun h : Fin 16 => ⟨S64x1024,
        head (transpose S1024x1024 [1, 0] (shapeCast S1024x1024 x0 shapeCasts_S1024x1024_S1024x1024)
          transposes_S1024x1024_p1_0_S1024x1024) x1 x2 x3 h⟩) (heads_fill _)) bitsLt_bf16_f32)
      (shapeCast S1024x1024 x4 shapeCasts_S1024x1024_S1024x1024) (constant S1024x1024 .f32 0x00000000#32))
    (broadcastTo S1024x1024 (shapeCast S1x1024 x5 shapeCasts_S1x1024_S1x1024) broadcasts_S1x1024_S1024x1024)

set_option maxHeartbeats 4000000 in
/-- What the body stores in its result block is `body` of the six blocks that it loads. -/
theorem out0_6_eq (x0 : Vec F S1024x1024 .f32) (x1 : Vec F S16x64x64 .f32) (x2 : Vec F S16x1024x64 .bf16)
    (x3 : Vec F S16x64x1024 .bf16) (x4 : Vec F S1024x1024 .bf16) (x5 : Vec F S1x1024 .f32) :
    out0_6 x0 x1 x2 x3 x4 x5
      = View.canon [⟨r0_0, body (View.ld x0 r0_0) x1 x2 x3 (View.ld x4 r0_0) (View.ld x5 r0_49)⟩] := by
  rfl

end Cert.Heads

end
-- ==== Proof.Router.lean ====
/-
  The router's choice among 64 experts, apart from any program: the first place where a column of extended reals is
  largest (`top`), the same of the rest (`next`), and the three ways in which the two programs find them: a running
  maximum, the least row number among the rows that equal it, and a stable sort that puts the greater first.
-/
module

public import Idealize.ShloMosaic.Lib.SortPrefix
public import Idealize.ShloMosaic.Lib.SortNet.Extract
public import Idealize.ShloMosaic.PureOps.Reduce
public import Idealize.ShloMosaic.PureOps.Ideal

@[expose] public section

noncomputable section

namespace Cert.Router

open Idealize.ShloMosaic

/-- `i` is the first place at which `v` is largest. -/
def IsTop (v : Fin 64 → EReal) (i : Fin 64) : Prop := (∀ p, v p ≤ v i) ∧ ∀ p, p < i → v p < v i

/-- Every column has a first largest place. -/
theorem exists_top (v : Fin 64 → EReal) : ∃ i, IsTop v i := by
  obtain ⟨i₀, h₀⟩ := Finite.exists_max v
  have hne : (Finset.univ.filter fun i => ∀ p, v p ≤ v i).Nonempty := ⟨i₀, by simpa using h₀⟩
  refine ⟨(Finset.univ.filter fun i => ∀ p, v p ≤ v i).min' hne, ?_, fun p hp => ?_⟩
  · exact (Finset.mem_filter.mp (Finset.min'_mem _ hne)).2
  · have hmax := (Finset.mem_filter.mp (Finset.min'_mem _ hne)).2
    refine lt_of_le_of_ne (hmax p) fun he => ?_
    exact absurd (Finset.min'_le _ p (Finset.mem_filter.mpr ⟨Finset.mem_univ _, fun q => he ▸ hmax q⟩)) (not_le.mpr hp)

/-- The first place at which `v` is largest. -/
def top (v : Fin 64 → EReal) : Fin 64 := (exists_top v).choose

theorem isTop_top (v : Fin 64 → EReal) : IsTop v (top v) := (exists_top v).choose_spec

/-- `v` with its first largest entry overwritten by minus infinity. -/
def rest (v : Fin 64 → EReal) (p : Fin 64) : EReal := if p = top v then ⊥ else v p

/-- The first place at which the rest of `v` is largest. -/
def next (v : Fin 64 → EReal) : Fin 64 := top (rest v)

/-- Where no entry is minus infinity, the second place differs from the first. -/
theorem next_ne_top (v : Fin 64 → EReal) (hv : ∀ p, v p ≠ ⊥) : next v ≠ top v := by
  intro he
  obtain ⟨q, hq⟩ := exists_ne (top v)
  have h := (isTop_top (rest v)).1 q
  change rest v q ≤ rest v (next v) at h
  rw [he, rest, rest, if_neg hq, if_pos rfl] at h
  exact hv q (le_bot_iff.mp h)

/-- There the rest at the second place is the column itself. -/
theorem rest_next (v : Fin 64 → EReal) (hv : ∀ p, v p ≠ ⊥) : rest v (next v) = v (next v) :=
  if_neg (next_ne_top v hv)

/-- A running maximum from minus infinity ends at the entry of the first largest place. -/
theorem fold_max (v : Fin 64 → EReal) : Finset.univ.fold max ⊥ v = v (top v) := by
  refine le_antisymm ?_ ?_
  · exact Finset.fold_max_le (f := v) (b := ⊥) _ |>.mpr ⟨bot_le, fun p _ => (isTop_top v).1 p⟩
  · exact Finset.le_fold_max (f := v) (b := ⊥) _ |>.mpr (Or.inr ⟨top v, Finset.mem_univ _, le_rfl⟩)

/-- A running signed minimum of words is, as an integer, no larger than any of them, and it is one of them or the
    start. -/
theorem fold_minsi (init : BitVec 32) (f : Fin 64 → BitVec 32) (s : Finset (Fin 64)) :
    (∀ p ∈ s, (s.fold IntOp.minsi init f).toInt ≤ (f p).toInt) ∧ (s.fold IntOp.minsi init f).toInt ≤ init.toInt
      ∧ ((s.fold IntOp.minsi init f).toInt = init.toInt ∨ ∃ p ∈ s, (s.fold IntOp.minsi init f).toInt = (f p).toInt) := by
  classical
  induction s using Finset.induction with
  | empty => simp
  | insert a s ha ih =>
    obtain ⟨h1, h2, h3⟩ := ih
    rw [Finset.fold_insert ha, SortNet.toInt_minsi]
    refine ⟨fun p hp => ?_, ?_, ?_⟩
    · rcases Finset.mem_insert.mp hp with rfl | hp
      · exact min_le_left _ _
      · exact (min_le_right _ _).trans (h1 p hp)
    · exact (min_le_right _ _).trans h2
    · rcases min_choice (f a).toInt (s.fold IntOp.minsi init f).toInt with h | h
      · exact Or.inr ⟨a, Finset.mem_insert_self _ _, h⟩
      · rw [h]
        rcases h3 with h3 | ⟨p, hp, h3⟩
        · exact Or.inl h3
        · exact Or.inr ⟨p, Finset.mem_insert_of_mem hp, h3⟩

/-- A row number as a signed word is the number. -/
theorem toInt_row (n : Nat) (h : n ≤ 64) : (BitVec.ofNat 32 n).toInt = n := by
  rw [BitVec.toInt_eq_toNat_cond, BitVec.toNat_ofNat]
  omega

/-- The least row number among the rows that equal the largest entry is the first largest place's. -/
theorem fold_min_row (v : Fin 64 → EReal) :
    Finset.univ.fold IntOp.minsi 2147483647#32 (fun p : Fin 64 => if v p = v (top v) then BitVec.ofNat 32 p else 64#32)
      = BitVec.ofNat 32 (top v) := by
  obtain ⟨h1, h2, h3⟩ := fold_minsi 2147483647#32
    (fun p : Fin 64 => if v p = v (top v) then BitVec.ofNat 32 p else 64#32) Finset.univ
  generalize Finset.univ.fold IntOp.minsi 2147483647#32
    (fun p : Fin 64 => if v p = v (top v) then BitVec.ofNat 32 p else 64#32) = w at h1 h2 h3
  have ht := h1 (top v) (Finset.mem_univ _)
  simp only [if_true] at ht
  rw [toInt_row _ (top v).isLt.le] at ht
  refine BitVec.eq_of_toInt_eq ?_
  rw [toInt_row _ (top v).isLt.le]
  refine le_antisymm ht ?_
  have hlt := (top v).isLt
  rcases h3 with h3 | ⟨p, -, h3⟩
  · rw [show (2147483647#32 : BitVec 32).toInt = 2147483647 from by decide] at h3
    omega
  · split_ifs at h3 with he
    · rw [toInt_row _ p.isLt.le] at h3
      have : ¬ p < top v := fun hp => ((isTop_top v).2 p hp).ne he
      rw [h3]
      exact_mod_cast not_lt.mp this
    · rw [show (64#32 : BitVec 32).toInt = 64 from by decide] at h3
      omega

/-- Two row numbers are equal words exactly when the rows are. -/
theorem row_eq_iff (p q : Fin 64) : BitVec.ofNat 32 p = BitVec.ofNat 32 q ↔ p = q := by
  constructor
  · intro h
    have h := congrArg BitVec.toNat h
    rw [BitVec.toNat_ofNat, BitVec.toNat_ofNat] at h
    have := p.isLt
    have := q.isLt
    exact Fin.ext (by omega)
  · rintro rfl
    rfl

/-! ## The stable sort that puts the greater first -/

/-- The greater first, and of equals the one at the lower place. -/
def greaterFirst (v : Fin 64 → EReal) (k k' : Fin 64) : Bool :=
  decide (v k' < v k) || (decide (v k = v k') && decide (k < k'))

theorem strict_greaterFirst (v : Fin 64 → EReal) : StrictTotalBefore (greaterFirst v) := by
  classical
  exact StrictTotalBefore.of_key_then_position (fun a b : EReal => decide (b < a)) v (fun a => by simp)
    (fun a b c h h' => by simp only [decide_eq_true_eq] at *; exact h'.trans h)
    (fun a b => by
      simp only [decide_eq_true_eq]
      rcases lt_trichotomy a b with h | h | h
      · exact Or.inr (Or.inr h)
      · exact Or.inr (Or.inl h)
      · exact Or.inl h)

/-- On a list of places in increasing order, the stable sort by the entries alone is the sort by entry and then place. -/
theorem stableSort_eq (v : Fin 64 → EReal) (l : List (Fin 64)) (hl : l.Pairwise (· < ·)) :
    stableSort (fun k k' => decide (v k' < v k)) l = stableSort (greaterFirst v) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [greaterFirst, hab.not_gt]

/-- Two relations that sort the places alike put the same place at every position. -/
theorem sortedFrom_congr {n : Nat} (B B' : Fin n → Fin n → Bool) (h : sortPositions n B = sortPositions n B') :
    sortedFrom B = sortedFrom B' := by
  funext k
  exact List.get_of_eq h _

theorem sortedFrom_eq (v : Fin 64 → EReal) :
    sortedFrom (fun k k' => decide (v k' < v k)) = sortedFrom (greaterFirst v) :=
  sortedFrom_congr _ _ (stableSort_eq v _ (List.pairwise_lt_finRange 64))

/-- Nothing is sorted before the first largest place. -/
theorem not_before_top (v : Fin 64 → EReal) (p : Fin 64) : greaterFirst v p (top v) = false := by
  obtain ⟨hmax, hfirst⟩ := isTop_top v
  generalize top v = i at hmax hfirst
  rw [greaterFirst, decide_eq_false (not_lt.mpr (hmax p)), Bool.false_or]
  by_cases hp : p < i
  · rw [decide_eq_false (hfirst p hp).ne, Bool.false_and]
  · rw [decide_eq_false hp, Bool.and_false]

/-- Nothing but the first largest place is sorted before the second. -/
theorem not_before_next (v : Fin 64 → EReal) (hv : ∀ p, v p ≠ ⊥) (p : Fin 64) (hp : p ≠ top v) :
    greaterFirst v p (next v) = false := by
  have h := not_before_top (rest v) p
  change greaterFirst (rest v) p (next v) = false at h
  unfold greaterFirst at h ⊢
  rwa [rest_next v hv, show rest v p = v p from if_neg hp] at h

/-- The first largest place and the second, by number. -/
def pick (v : Fin 64 → EReal) : Fin 2 → Fin 64 := ![top v, next v]

/-- The first two places of the sort are the first largest place and the second. -/
theorem sort_two (v : Fin 64 → EReal) (hv : ∀ p, v p ≠ ⊥) (h : 2 ≤ 64) (i : Fin 2) :
    sortedFrom (fun k k' => decide (v k' < v k)) (i.castLE h) = pick v i := by
  have h0 : pick v 0 = top v := rfl
  have h1 : pick v 1 = next v := rfl
  have hne := next_ne_top v hv
  rw [sortedFrom_eq]
  refine (strict_greaterFirst v).sortedFrom_eq_of_prefix h (pick v) (fun a b hab => ?_) (fun a b hab => ?_)
    (fun a p hp => ?_) i
  · fin_cases a <;> fin_cases b <;> simp_all
  · obtain ⟨rfl, rfl⟩ : a = 0 ∧ b = 1 := by omega
    rw [h0]
    exact not_before_top v _
  · obtain rfl | rfl : a = 0 ∨ a = 1 := by omega
    · rw [h0]
      exact not_before_top v p
    · rw [h1]
      exact not_before_next v hv p fun he => hp 0 (h0.trans he.symm)

end Cert.Router

end
-- ==== Proof.Weights.lean ====
/-
  The attention weight of one token of one head, over the real numbers: the logits' two largest places share the gate
  as a softmax of the two logits, and each expert's slots share it as a softmax of the scores. Nothing here mentions a
  program; both programs are shown to compute `weight`.
-/
module

public import proofs.«01_k».proof.Proof.Router
public import Idealize.ShloMosaic.PureOps.Ideal.Laws

@[expose] public section

noncomputable section

namespace Cert.Weights

open Idealize.ShloMosaic Cert.Router

/-- A column of real logits as extended reals. -/
def col (l : Fin 64 → ℝ) (p : Fin 64) : EReal := (l p : EReal)

theorem col_ne_bot (l : Fin 64 → ℝ) (p : Fin 64) : col l p ≠ ⊥ := EReal.coe_ne_bot _

/-- The exponential of the second largest logit less the largest. -/
def ratio (l : Fin 64 → ℝ) : ℝ := Real.exp (l (next (col l)) - l (top (col l)))

/-- An expert's share before it is normalised: 1 for the first largest logit, `ratio` for the second, 0 for the rest. -/
def share (l : Fin 64 → ℝ) (p : Fin 64) : ℝ :=
  if p = top (col l) then 1 else if p = next (col l) then ratio l else 0

/-- The sum of the exponentials of an expert's scores. -/
def total (s : Fin 64 → Fin 16 → ℝ) (p : Fin 64) : ℝ := ∑ r, Real.exp (s p r)

/-- The weight of slot `r` of expert `p`. -/
def weight (l : Fin 64 → ℝ) (s : Fin 64 → Fin 16 → ℝ) (p : Fin 64) (r : Fin 16) : ℝ :=
  Real.exp (s p r) * (share l p / ((1 + ratio l) * total s p))

theorem one_add_ratio_pos (l : Fin 64 → ℝ) : 0 < 1 + ratio l := by
  have := Real.exp_pos (l (next (col l)) - l (top (col l)))
  unfold ratio
  positivity

theorem total_pos (s : Fin 64 → Fin 16 → ℝ) (p : Fin 64) : 0 < total s p :=
  Finset.sum_pos (fun r _ => Real.exp_pos _) Finset.univ_nonempty

/-- A finite sum of reals, taken in the extended reals. -/
theorem coe_sum {ι : Type} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

/-- The quotient of two reals, the divisor not zero, taken in the extended reals. -/
theorem div_real (x y : ℝ) (h : y ≠ 0) : Ideal.div (x : EReal) (y : EReal) = ((x / y : ℝ) : EReal) := by
  rw [Ideal.div_coe h, ← EReal.coe_mul, mul_one_div]

/-- The word that the programs write for minus infinity. -/
theorem negInf : Ideal.ofBits FTy.f32 4286578688#32 = ⊥ := by
  simp [Ideal.ofBits, Ideal.ieee, -EReal.coe_mul]

end Cert.Weights

end
-- ==== Proof.HeadValue.lean ====
/-
  What one head of the kernel computes, over the extended reals: where a token's logits and scores are real numbers,
  the weights are the real weights of `Cert.Weights`, and the head's output is the values weighted by them.
-/
module

public import proofs.«01_k».proof.Proof.Heads
public import proofs.«01_k».proof.Proof.Weights
public import Idealize.ShloMosaic.Lib.Pointwise

@[expose] public section

set_option maxRecDepth 16384

noncomputable section

namespace Cert.Heads

open Idealize.ShloMosaic Cert.KernelIdeal Cert.KernelIdeal.Gen Cert.Router Cert.Weights

/-- A column of a block of 64 rows. -/
def column (l : FVec Ideal S64x1024 .f32) (t : Fin 1024) (p : Fin 64) : EReal := l (ix2 p t)

/-- The mark stands at the first largest place of the column and nowhere else. -/
theorem isFirst_apply (l : FVec Ideal S64x1024 .f32) (p : Fin 64) (t : Fin 1024) :
    isFirst l (ix2 p t) = BitVec.ofBool (decide (p = top (column l t))) := by
  pointwise [isFirst, rowNum, colMax]
  rw [negInf]
  change IntOp.cmpi .eq (BitVec.ofNat 32 p) (Finset.fold IntOp.minsi 2147483647#32
    (fun x : Fin 64 => if column l t x = Finset.fold max ⊥ (column l t) Finset.univ then BitVec.ofNat 32 x else 64#32)
    Finset.univ) = _
  rw [fold_max, fold_min_row]
  refine congrArg BitVec.ofBool ?_
  rw [Bool.eq_iff_iff, decide_eq_true_iff]
  exact beq_iff_eq.trans (row_eq_iff _ _)

theorem select_ofBool {α : Type} (b : Bool) (x y : α) : Scalar.select (BitVec.ofBool b) x y = if b then x else y := by
  cases b <;> rfl

/-- The column of the overwritten logits is the rest of the column. -/
theorem column_others (l : FVec Ideal S64x1024 .f32) (t : Fin 1024) : column (others l) t = rest (column l t) := by
  funext p
  unfold column
  pointwise [others]
  rw [isFirst_apply, select_ofBool, negInf]
  simp only [decide_eq_true_eq]
  rfl

/-- Where the column is real, `second` is the ratio of the second largest exponential to the largest. -/
theorem second_apply (l : FVec Ideal S64x1024 .f32) (t : Fin 1024) (lr : Fin 64 → ℝ) (hl : column l t = col lr) :
    second l (ix2 0 t) = (ratio lr : EReal) := by
  pointwise [second, colMax]
  rw [negInf]
  change Ideal.exp (Finset.fold max ⊥ (column (others l) t) Finset.univ - Finset.fold max ⊥ (column l t) Finset.univ) = _
  rw [fold_max, fold_max, column_others, hl]
  change Ideal.exp (rest (col lr) (next (col lr)) - col lr (top (col lr))) = _
  rw [rest_next _ (col_ne_bot lr), col, col, ← EReal.coe_sub, Ideal.exp_coe]
  rfl

/-- There the gates are the shares. -/
theorem gates_apply (l : FVec Ideal S64x1024 .f32) (p : Fin 64) (t : Fin 1024) (lr : Fin 64 → ℝ)
    (hl : column l t = col lr) : gates l (ix2 p t) = (share lr p : EReal) := by
  have h2 := second_apply l t lr hl
  pointwise [gates]
  rw [isFirst_apply, isFirst_apply, column_others, hl, select_ofBool, select_ofBool, h2]
  simp only [decide_eq_true_eq]
  change _ + (if p = next (col lr) then _ else _) = _
  unfold share
  by_cases h1 : p = top (col lr)
  · rw [if_pos h1, if_pos h1, if_neg fun h => next_ne_top _ (col_ne_bot lr) (h.symm.trans h1)]
    simp
  · rw [if_neg h1, if_neg h1]
    split_ifs <;> simp

/-- The weight of row `n` is that of slot `n / 64` of expert `n % 64`. -/
theorem weights_apply (l : FVec Ideal S64x1024 .f32) (ex : FVec Ideal S16x64x1024 .bf16) (r : Fin 16) (p : Fin 64)
    (n t : Fin 1024) (hn : n.val = r.val * 64 + p.val) (lr : Fin 64 → ℝ) (sr : Fin 64 → Fin 16 → ℝ)
    (hl : column l t = col lr) (hs : ∀ p r, ex (ix3 r p t) = (Real.exp (sr p r) : EReal)) :
    weights l ex (ix2 n t) = (weight lr sr p r : EReal) := by
  have h2 := second_apply l t lr hl
  have hr : n.val / 64 = r.val := by omega
  have hp : n.val % 64 = p.val := by omega
  pointwise [weights, denom]
  simp only [hr, hp, Fin.eta]
  rw [gates_apply l p t lr hl, h2]
  simp only [hs]
  rw [coe_sum, ← EReal.coe_one, ← EReal.coe_add, ← EReal.coe_mul, div_real, ← EReal.coe_mul]
  · rfl
  · exact (mul_pos (one_add_ratio_pos lr) (total_pos sr p)).ne'

/-- The logits of a token: the matrix's rows times the token's head. -/
theorem logits_apply (xs : FVec Ideal S64x1024 .f32) (w : Vec Ideal S1x64x64 .f32) (p : Fin 64) (t : Fin 1024) :
    logits xs w (ix2 p t) = ∑ d : Fin 64, w (ix3 0 p d) * xs (ix2 d t) := by
  pointwise [logits]

/-- The exponentials of the scores of a token: slot `r` of expert `p` stands in row `64 r + p`. -/
theorem expScores_apply (xb : FVec Ideal S64x1024 .bf16) (sk : Vec Ideal S1x1024x64 .bf16) (r : Fin 16) (p : Fin 64)
    (t : Fin 1024) : expScores xb sk (ix3 r p t)
      = Ideal.exp (∑ d : Fin 64, sk (ix3 0 ⟨r.val * 64 + p.val, by omega⟩ d) * xb (ix2 d t)) := by
  pointwise [expScores]

/-- A head's output: the values weighted. -/
theorem headOut_apply (xs : FVec Ideal S64x1024 .f32) (xb : FVec Ideal S64x1024 .bf16) (w : Vec Ideal S1x64x64 .f32)
    (sk : Vec Ideal S1x1024x64 .bf16) (sv : Vec Ideal S1x64x1024 .bf16) (e : Fin 64) (t : Fin 1024) :
    headOut xs xb w sk sv (ix2 e t)
      = ∑ n : Fin 1024, sv (ix3 0 e n) * weights (logits xs w) (expScores xb sk) (ix2 n t) := by
  pointwise [headOut]

/-- Slab `h` of a stack, read at an index. -/
theorem slab_apply {α : EltTy} {a b : Nat} (x : Vec Ideal ⟨3, ![16, a, b]⟩ α) (h : Fin 16) (i : Fin a) (j : Fin b) :
    slab x h (ix3 0 i j) = x (ix3 h i j) := by
  pointwise [slab]
  refine congrArg x (funext fun k => Fin.ext ?_)
  match k with
  | ⟨0, _⟩ => rfl
  | ⟨1, _⟩ => exact Nat.zero_add _
  | ⟨2, _⟩ => exact Nat.zero_add _

end Cert.Heads

end
-- ==== Proof.BodyValue.lean ====
/-
  What one block of the kernel stores, over the extended reals: entry (s, j) is the sum over the 1024 coordinates of
  the heads' outputs times row j of the output matrix, plus the bias at j.
-/
module

public import proofs.«01_k».proof.Proof.HeadValue
public import Idealize.ShloMosaic.Lib.Pipeline.Value

@[expose] public section

set_option maxRecDepth 16384

noncomputable section

namespace Cert.Heads

open Idealize.ShloMosaic Cert.KernelIdeal Cert.KernelIdeal.Gen Cert.Router Cert.Weights

/-- A sum over the 1024 rows `64 r + p` is the sum over the experts `p` and their slots `r`. -/
theorem sum_slots (f : Fin 1024 → EReal) :
    ∑ n, f n = ∑ p : Fin 64, ∑ r : Fin 16, f ⟨r.val * 64 + p.val, by omega⟩ := by
  rw [← Equiv.sum_comp (finProdFinEquiv (m := 16) (n := 64)) f, Fintype.sum_prod_type, Finset.sum_comm]
  refine Finset.sum_congr rfl fun p _ => Finset.sum_congr rfl fun r _ => congrArg f (Fin.ext ?_)
  change p.val + 64 * r.val = r.val * 64 + p.val
  omega

/-- Head `h` at coordinate `e` of a token, where the token's logits are the reals `lr` and its scores the reals `sr`. -/
theorem head_apply (xt : FVec Ideal S1024x1024 .f32) (x1 : Vec Ideal S16x64x64 .f32) (x2 : Vec Ideal S16x1024x64 .bf16)
    (x3 : Vec Ideal S16x64x1024 .bf16) (h : Fin 16) (e : Fin 64) (t : Fin 1024) (lr : Fin 64 → ℝ)
    (sr : Fin 64 → Fin 16 → ℝ)
    (hl : ∀ p : Fin 64, ∑ d : Fin 64, x1 (ix3 h p d) * xt (ix2 ⟨64 * h.val + d.val, by omega⟩ t) = (lr p : EReal))
    (hs : ∀ (p : Fin 64) (r : Fin 16), ∑ d : Fin 64, x2 (ix3 h ⟨r.val * 64 + p.val, by omega⟩ d)
      * xt (ix2 ⟨64 * h.val + d.val, by omega⟩ t) = (sr p r : EReal)) :
    head xt x1 x2 x3 h (ix2 e t)
      = ∑ p : Fin 64, ∑ r : Fin 16, x3 (ix3 h e ⟨r.val * 64 + p.val, by omega⟩) * (weight lr sr p r : EReal) := by
  have hx (d : Fin 64) : extractStridedSlice S64x1024 ![64 * h.val, 0] xt (slices h) (ix2 d t)
      = xt (ix2 ⟨64 * h.val + d.val, by omega⟩ t) := by
    pointwise
  have hxb (d : Fin 64) : extractStridedSlice S64x1024 ![64 * h.val, 0] (truncf .bf16 xt bitsLt_bf16_f32) (slices h)
      (ix2 d t) = xt (ix2 ⟨64 * h.val + d.val, by omega⟩ t) := by
    pointwise
  rw [head, headOut_apply, sum_slots]
  refine Finset.sum_congr rfl fun p _ => Finset.sum_congr rfl fun r _ => ?_
  rw [slab_apply, weights_apply _ _ r p ⟨r.val * 64 + p.val, by omega⟩ t rfl lr sr]
  · funext p
    rw [column, logits_apply]
    simp only [hx, slab_apply]
    exact hl p
  · intro p r
    rw [expScores_apply]
    simp only [hxb, slab_apply]
    rw [hs, Ideal.exp_coe]

/-- The stacked heads at row `c`: head `c / 64` at its coordinate `c % 64`. -/
theorem stacked_apply (f : Fin 16 → FVec Ideal S64x1024 .f32) (c s : Fin 1024) :
    concatenate S1024x1024 0 (List.ofFn fun h : Fin 16 => (⟨S64x1024, f h⟩ : (s : Shape) × (s.Idx → Ideal .f32)))
      (heads_fill f) (ix2 c s) = f ⟨c.val / 64, by omega⟩ (ix2 ⟨c.val % 64, by omega⟩ s) :=
  concatenate_ofFn_apply (t := S1024x1024) (s₁ := S64x1024) 0 f (heads_fill f) rfl 64 rfl _
    ⟨c.val / 64, by omega⟩ rfl (ix2 ⟨c.val % 64, by omega⟩ s) rfl fun b hb => by
      match b with
      | ⟨0, _⟩ => exact absurd rfl hb
      | ⟨1, _⟩ => rfl

/-- The last step of the block: the stacked rows `y`, transposed, times the output matrix, plus the bias. -/
theorem project_apply (y : FVec Ideal S1024x1024 .f32) (x4 : FVec Ideal S1024x1024 .bf16) (x5 : Vec Ideal S1x1024 .f32)
    (s j : Fin 1024) :
    addf (matmul dot_S1024x1024_S1024x1024_S1024x1024_0_1_1_0_n_n none (truncf .bf16 y bitsLt_bf16_f32)
        (shapeCast S1024x1024 x4 shapeCasts_S1024x1024_S1024x1024) (constant S1024x1024 .f32 0x00000000#32))
      (broadcastTo S1024x1024 (shapeCast S1x1024 x5 shapeCasts_S1x1024_S1x1024) broadcasts_S1x1024_S1024x1024) (ix2 s j)
      = (∑ c : Fin 1024, y (ix2 c s) * x4 (ix2 j c)) + x5 (ix2 0 j) := by
  pointwise

/-- The tokens' block, transposed. -/
def turn (x0 : Vec Ideal S1024x1024 .f32) : FVec Ideal S1024x1024 .f32 :=
  transpose S1024x1024 [1, 0] (shapeCast S1024x1024 x0 shapeCasts_S1024x1024_S1024x1024)
    transposes_S1024x1024_p1_0_S1024x1024

theorem turn_apply (x0 : Vec Ideal S1024x1024 .f32) (d t : Fin 1024) : turn x0 (ix2 d t) = x0 (ix2 t d) := by
  pointwise [turn]

/-- Entry (s, j) of the stored block. -/
theorem body_apply (x0 : Vec Ideal S1024x1024 .f32) (x1 : Vec Ideal S16x64x64 .f32) (x2 : Vec Ideal S16x1024x64 .bf16)
    (x3 : Vec Ideal S16x64x1024 .bf16) (x4 : Vec Ideal S1024x1024 .bf16) (x5 : Vec Ideal S1x1024 .f32)
    (s j : Fin 1024) :
    body x0 x1 x2 x3 x4 x5 (ix2 s j)
      = (∑ c : Fin 1024, head (turn x0) x1 x2 x3 ⟨c.val / 64, by omega⟩ (ix2 ⟨c.val % 64, by omega⟩ s) * x4 (ix2 j c))
        + x5 (ix2 0 j) := by
  refine (project_apply _ x4 x5 s j).trans (congrArg (· + _) (Finset.sum_congr rfl fun c _ => ?_))
  exact congrArg (· * _) (stacked_apply (head (turn x0) x1 x2 x3) c s)

end Cert.Heads

end
-- ==== Proof.HostOps.lean ====
/-
  The arrays that the kernel's region reads, as the operations before it leave them: the tokens, the router's matrices
  transposed, the keys folded into the query matrices and scaled by one over the root of 64, the values transposed, the
  output matrix and the bias. Each is stated at an index, over the extended reals, in terms of the arguments.
-/
module

public import proofs.«01_k».proof.Proof.Gen.KernelIdeal.Frame
public import Idealize.ShloMosaic.Lib.Pointwise
public import Idealize.ShloMosaic.Lib.Pipeline.Value

@[expose] public section

set_option maxRecDepth 16384

noncomputable section

namespace Cert.HostOps

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The tokens as a matrix. -/
def tokens (x : FVec F S1x2048x1024 .f32) : FVec F S2048x1024 .f32 :=
  shapeCast S2048x1024 x shapeCasts_S1x2048x1024_S2048x1024

/-- The router's matrices, transposed. -/
def router (wr : FVec F S16x64x64 .f32) : FVec F S16x64x64 .f32 :=
  transpose S16x64x64 [0, 2, 1] wr transposes_S16x64x64_S16x64x64_0_2_1

/-- The keys times the query matrices, scaled. -/
def keys (sk : FVec F S16x64x16x64 .f32) (wq : FVec F S16x64x64 .f32) : FVec F S16x1024x64 .bf16 :=
  truncf .bf16 (mulf (Host.dotGeneral dot_S16x1024x64_S16x64x64_S16x1024x64_2_2_1_1_0_0 none
      (shapeCast S16x1024x64 (transpose S16x16x64x64 [0, 2, 1, 3] sk transposes_S16x64x16x64_S16x16x64x64_0_2_1_3)
        shapeCasts_S16x16x64x64_S16x1024x64) wq)
    (broadcastInDim S16x1024x64 ![] bcast_S_S16x1024x64
      (Host.divf (constant S_ .f32 0x3F800000#32) (Host.sqrt (constant S_ .f32 0x42800000#32))))) bitsLt_bf16_f32

/-- The values, transposed. -/
def values (sv : FVec F S16x64x16x64 .f32) : FVec F S16x64x1024 .bf16 :=
  truncf .bf16 (shapeCast S16x64x1024 (transpose S16x64x16x64 [0, 3, 2, 1] sv
    transposes_S16x64x16x64_S16x64x16x64_0_3_2_1) shapeCasts_S16x64x16x64_S16x64x1024) bitsLt_bf16_f32

/-- The output matrix. -/
def projection (w : FVec F S1024x1024 .f32) : FVec F S1024x1024 .bf16 := truncf .bf16 w bitsLt_bf16_f32

/-- The bias, as a row. -/
def offset (b : FVec F S1024 .f32) : FVec F S1x1024 .f32 := shapeCast S1x1024 b shapeCasts_S1024_S1x1024

/-! ## What the region finds in each array -/

theorem V_v0 (c : Dev nD) : V m c main_v0 = tokens (m ((c : Thread nD τ).loc main_arg0)) := by
  unfold_abbrev_sides
  after_results
  rfl

theorem V_v1 (c : Dev nD) : V m c main_v1 = router (m ((c : Thread nD τ).loc main_arg2)) := by
  unfold_abbrev_sides
  after_results
  rfl

theorem V_v9 (c : Dev nD) :
    V m c main_v9 = keys (m ((c : Thread nD τ).loc main_arg3)) (m ((c : Thread nD τ).loc main_arg1)) := by
  unfold_abbrev_sides
  after_results
  rfl

theorem V_v12 (c : Dev nD) : V m c main_v12 = values (m ((c : Thread nD τ).loc main_arg4)) := by
  unfold_abbrev_sides
  after_results
  rfl

theorem V_v13 (c : Dev nD) : V m c main_v13 = projection (m ((c : Thread nD τ).loc main_arg5)) := by
  unfold_abbrev_sides
  after_results
  rfl

theorem V_v14 (c : Dev nD) : V m c main_v14 = offset (m ((c : Thread nD τ).loc main_arg6)) := by
  unfold_abbrev_sides
  after_results
  rfl

/-! ## The same, at an index, over the extended reals -/

theorem tokens_apply (x : FVec Ideal S1x2048x1024 .f32) (s : Fin 2048) (d : Fin 1024) :
    tokens x (ix2 s d) = x (ix3 0 s d) := by
  pointwise [tokens]

theorem router_apply (wr : FVec Ideal S16x64x64 .f32) (h : Fin 16) (p d : Fin 64) :
    router wr (ix3 h p d) = wr (ix3 h d p) := by
  pointwise [router]

/-- The root of 64 is 8. -/
theorem sqrt_64 : Ideal.sqrt (Ideal.ofBits FTy.f32 1115684864#32) = ((8 : ℝ) : EReal) := by
  have h : Ideal.ofBits FTy.f32 1115684864#32 = ((64 : ℝ) : EReal) := by
    simp [Ideal.ofBits, Ideal.ieee, -EReal.coe_mul]
    norm_num
  rw [h, Ideal.sqrt_coe, if_neg (by norm_num), show (64 : ℝ) = 8 ^ 2 by norm_num, Real.sqrt_sq (by norm_num)]

/-- Row `64 r + p` of the folded keys. -/
theorem keys_apply (sk : FVec Ideal S16x64x16x64 .f32) (wq : FVec Ideal S16x64x64 .f32) (h : Fin 16) (p d : Fin 64)
    (r : Fin 16) : keys sk wq (ix3 h ⟨r.val * 64 + p.val, by omega⟩ d)
      = (∑ e : Fin 64, sk (ix4 h p r e) * wq (ix3 h d e)) * ((1 / 8 : ℝ) : EReal) := by
  pointwise [keys]
  rw [sqrt_64, Ideal.div_coe (by norm_num), one_mul]

/-- Column `64 r + p` of the transposed values. -/
theorem values_apply (sv : FVec Ideal S16x64x16x64 .f32) (h : Fin 16) (p e : Fin 64) (r : Fin 16) :
    values sv (ix3 h e ⟨r.val * 64 + p.val, by omega⟩) = sv (ix4 h p r e) := by
  pointwise [values]

theorem projection_apply (w : FVec Ideal S1024x1024 .f32) (i j : Fin 1024) :
    projection w (ix2 i j) = w (ix2 i j) := by
  pointwise [projection]

theorem offset_apply (b : FVec Ideal S1024 .f32) (j : Fin 1024) : offset b (ix2 0 j) = b (ix1 j) := by
  pointwise [offset]

end Cert.HostOps

end
-- ==== Proof.Result.lean ====
/-
  The kernel's result array after a run: entry (s, j) lies in block s / 1024, which holds there what the body computes
  from block s / 1024 of the tokens and the whole of the other arrays.
-/
module

public import proofs.«01_k».proof.Proof.BodyValue
public import proofs.«01_k».proof.Proof.HostOps
public import proofs.«01_k».proof.Proof.Gen.KernelIdeal.Value

@[expose] public section

set_option maxRecDepth 16384

noncomputable section

namespace Cert.Result

open Idealize.ShloMosaic Idealize.ShloMosaic.TcCoe Idealize.SL.Sem Cert.KernelIdeal Cert.KernelIdeal.Gen
open Cert.KernelIdeal.Value Cert.Heads Cert.HostOps

variable (m : (ℓ : Loc nD τ sig) → Buf (Elt Ideal) ℓ) (c : Dev nD)

/-- An index in the tokens' block, or the result's, at grid point `t` is the index in the array 1024 t rows further on. -/
theorem index_rows : ∀ t : Fin cfg0.N, win0_0.index t 0 = t.val ∧ win0_0.index t 1 = 0 ∧ win0_6.index t 0 = t.val
    ∧ win0_6.index t 1 = 0 :=
  (by decide +kernel : ∀ t : Fin grid0.N, win0_0.index t 0 = t.val ∧ win0_0.index t 1 = 0 ∧ win0_6.index t 0 = t.val
    ∧ win0_6.index t 1 = 0)

/-- At grid point `t` the tokens' window holds rows 1024 t onwards. -/
theorem blk0 (t : Fin cfg0.N) (s d : Fin 1024) :
    iblk m c 0 t (ix2 s d) = V m c main_v0 (ix2 ⟨t.val * 1024 + s.val, by have : t.val < 2 := t.isLt; omega⟩ d) := by
  unfold iblk
  rw [View.read_apply]
  change V m c main_v0 ((win0_0.rect t).emb (ix2 s d)) = _
  refine congrArg _ (funext fun a => Fin.ext ?_)
  match a with
  | ⟨0, _⟩ => exact (Pipeline.Window.rect_emb_val win0_0 t _ 0 rfl).trans (congrArg (· * 1024 + s.val) (index_rows t).1)
  | ⟨1, _⟩ => exact Pipeline.Window.rect_emb_val_of_index_zero win0_0 t 1 (index_rows t).2.1 _

/-- The other five windows hold their whole arrays at every grid point: none of their blocks starts past zero. -/
theorem index_zero (t : Fin cfg0.N) : (∀ a, win0_1.index t a = 0) ∧ (∀ a, win0_2.index t a = 0)
    ∧ (∀ a, win0_3.index t a = 0) ∧ (∀ a, win0_4.index t a = 0) ∧ ∀ a, win0_5.index t a = 0 := by
  refine ⟨fun a => ?_, fun a => ?_, fun a => ?_, fun a => ?_, fun a => ?_⟩ <;> fin_cases a <;> rfl

/-- So each index of such a block is the same index of the array. -/
theorem emb_zero (w : Pipeline.Window sig grid0) (t : Fin grid0.N) (h : ∀ a, w.index t a = 0)
    (j : (w.xblock (grid0.coords t)).Idx) (a : Fin w.shape.rank) : ((w.rect t).emb j a).val = (j a).val :=
  Pipeline.Window.rect_emb_val_of_index_zero w t a (h a) j

theorem blk1 (t : Fin cfg0.N) : iblk m c 1 t = V m c main_v1 :=
  funext fun j => congrArg (V m c main_v1) (funext fun a => Fin.ext (emb_zero win0_1 t (index_zero t).1 j a))

theorem blk2 (t : Fin cfg0.N) : iblk m c 2 t = V m c main_v9 :=
  funext fun j => congrArg (V m c main_v9) (funext fun a => Fin.ext (emb_zero win0_2 t (index_zero t).2.1 j a))

theorem blk3 (t : Fin cfg0.N) : iblk m c 3 t = V m c main_v12 :=
  funext fun j => congrArg (V m c main_v12) (funext fun a => Fin.ext (emb_zero win0_3 t (index_zero t).2.2.1 j a))

theorem blk4 (t : Fin cfg0.N) : iblk m c 4 t = V m c main_v13 :=
  funext fun j => congrArg (V m c main_v13) (funext fun a => Fin.ext (emb_zero win0_4 t (index_zero t).2.2.2.1 j a))

theorem blk5 (t : Fin cfg0.N) : iblk m c 5 t = V m c main_v14 :=
  funext fun j => congrArg (V m c main_v14) (funext fun a => Fin.ext (emb_zero win0_5 t (index_zero t).2.2.2.2 j a))

/-- The block that the tokens' window holds at grid point `t`. -/
def tile (x : FVec Ideal S1x2048x1024 .f32) (t : Fin 2) : FVec Ideal S1024x1024 .f32 := fun i =>
  x (ix3 0 ⟨t.val * 1024 + (i 0).val, by have : (i 0).val < 1024 := (i 0).isLt; omega⟩ (i 1))

theorem blk0_tile (t : Fin cfg0.N) : iblk m c 0 t = tile (m ((c : Thread nD τ).loc main_arg0)) t := by
  funext i
  rw [eq_ix2 i]
  exact (blk0 m c t _ _).trans ((congrFun (V_v0 m c) _).trans (tokens_apply _ _ _))

/-- Every point writes its block back. -/
theorem flush6 : ∀ t : Fin cfg0.N, (cfg0.win 6).flush t = true :=
  (by decide +kernel : ∀ t : Fin grid0.N, win0_6.flush t = true)

/-- The offsets of a load or a store of a whole block. -/
theorem zero_off : (![0, 0] : Fin 2 → Nat) = fun _ => 0 := by
  funext a
  fin_cases a <;> rfl

/-- What the body stores: its six blocks, whole, put through `body`. -/
theorem stored (x0 : Vec Ideal S1024x1024 .f32) (x1 : Vec Ideal S16x64x64 .f32) (x2 : Vec Ideal S16x1024x64 .bf16)
    (x3 : Vec Ideal S16x64x1024 .bf16) (x4 : Vec Ideal S1024x1024 .bf16) (x5 : Vec Ideal S1x1024 .f32) :
    out0_6 x0 x1 x2 x3 x4 x5 = body x0 x1 x2 x3 x4 x5 := by
  rw [out0_6_eq, View.canon_unit_zero zero_off, View.ld_unit_zero zero_off, View.ld_unit_zero zero_off,
    View.ld_unit_zero zero_off]

/-- The result array after the run. -/
def result : FVec Ideal S2048x1024 .f32 := (dats m 0 c).arrAt 6 cfg0.N

/-- Where row `i` of point `t`'s block lies in the result. -/
theorem emb6 (t : Fin cfg0.N) (s : Fin 2048) (i j : Fin 1024) (hs : s.val = t.val * 1024 + i.val) :
    ((cfg0.win 6).blk t).view.emb (ix2 i j) = (ix2 s j : S2048x1024.Idx) := by
  change (win0_6.rect t).emb (ix2 i j) = _
  refine funext fun a => Fin.ext ?_
  match a with
  | ⟨0, _⟩ =>
    exact (Pipeline.Window.rect_emb_val win0_6 t _ 0 rfl).trans
      ((congrArg (· * 1024 + i.val) (index_rows t).2.2.1).trans hs.symm)
  | ⟨1, _⟩ => exact Pipeline.Window.rect_emb_val_of_index_zero win0_6 t 1 (index_rows t).2.2.2 _

/-- Entry (s, j) of the result after the run: the body's entry (s % 1024, j) on block s / 1024 of the tokens. -/
theorem result_apply (s : Fin 2048) (j : Fin 1024) :
    result m c (ix2 s j)
      = body (tile (m ((c : Thread nD τ).loc main_arg0)) ⟨s.val / 1024, by omega⟩)
          (router (m ((c : Thread nD τ).loc main_arg2)))
          (keys (m ((c : Thread nD τ).loc main_arg3)) (m ((c : Thread nD τ).loc main_arg1)))
          (values (m ((c : Thread nD τ).loc main_arg4))) (projection (m ((c : Thread nD τ).loc main_arg5)))
          (offset (m ((c : Thread nD τ).loc main_arg6))) (ix2 ⟨s.val % 1024, by omega⟩ j) := by
  have ht : s.val / 1024 < cfg0.N := by change _ < 2; omega
  have h := (dats m 0 c).arrAt_emb_eq_flushed 6 disjoint6 ⟨s.val / 1024, ht⟩ (flush6 _)
    (ix2 (⟨s.val % 1024, by omega⟩ : Fin 1024) j)
  rw [emb6 ⟨s.val / 1024, ht⟩ s ⟨s.val % 1024, by omega⟩ j
    (by change s.val = s.val / 1024 * 1024 + s.val % 1024; omega)] at h
  refine h.trans ?_
  rw [flushed6, stored, blk0_tile, blk1, blk2, blk3, blk4, blk5, V_v1, V_v9, V_v12, V_v13, V_v14]
  rfl

end Cert.Result

end
-- ==== Proof.Attention.lean ====
/-
  The answer that both programs compute, as a function of the arguments' entries: the router's logits and the attention
  scores of each token and head, as real numbers; the values weighted by `Cert.Weights.weight`; and the projection of
  the heads' outputs. Nothing here mentions a program.
-/
module

public import proofs.«01_k».proof.Proof.Weights

@[expose] public section

noncomputable section

namespace Cert.Attention

open Idealize.ShloMosaic Cert.Weights

/-- An entry that is a real number. -/
def IsReal (v : EReal) : Prop := v = (v.toReal : EReal)

/-- Coordinate `d` of head `h` among a token's 1024. -/
def coord (h : Fin 16) (d : Fin 64) : Fin 1024 := ⟨64 * h.val + d.val, by omega⟩

/-- The router's logit of expert `p` for a token `x` in head `h`. -/
def logit (x : Fin 1024 → EReal) (wr : Fin 16 → Fin 64 → Fin 64 → EReal) (h : Fin 16) (p : Fin 64) : ℝ :=
  ∑ d, (wr h d p).toReal * (x (coord h d)).toReal

/-- The score of slot `r` of expert `p`: the key times the query, over 8. -/
def score (x : Fin 1024 → EReal) (wq : Fin 16 → Fin 64 → Fin 64 → EReal) (sk : Fin 16 → Fin 64 → Fin 16 → Fin 64 → EReal)
    (h : Fin 16) (p : Fin 64) (r : Fin 16) : ℝ :=
  (∑ e, (sk h p r e).toReal * ∑ d, (wq h d e).toReal * (x (coord h d)).toReal) / 8

/-- Coordinate `e` of head `h`'s output: the values weighted over all experts and slots. -/
def attend (x : Fin 1024 → EReal) (wq wr : Fin 16 → Fin 64 → Fin 64 → EReal)
    (sk sv : Fin 16 → Fin 64 → Fin 16 → Fin 64 → EReal) (h : Fin 16) (e : Fin 64) : EReal :=
  ∑ p, ∑ r, sv h p r e * (weight (logit x wr h) (score x wq sk h) p r : EReal)

/-- Entry `j` of a token's result: the heads' outputs, joined, times row `j` of the output matrix, plus the bias. -/
def answer (x : Fin 1024 → EReal) (wq wr : Fin 16 → Fin 64 → Fin 64 → EReal)
    (sk sv : Fin 16 → Fin 64 → Fin 16 → Fin 64 → EReal) (wo : Fin 1024 → Fin 1024 → EReal) (b : Fin 1024 → EReal)
    (j : Fin 1024) : EReal :=
  (∑ c : Fin 1024, attend x wq wr sk sv ⟨c.val / 64, by omega⟩ ⟨c.val % 64, by omega⟩ * wo j c) + b j

/-- A sum of products of real entries is the real sum. -/
theorem sum_mul_real {n : Nat} (f g : Fin n → EReal) (hf : ∀ i, IsReal (f i)) (hg : ∀ i, IsReal (g i)) :
    ∑ i, f i * g i = ((∑ i, (f i).toReal * (g i).toReal : ℝ) : EReal) := by
  rw [← coe_sum]
  exact Finset.sum_congr rfl fun i _ => by rw [EReal.coe_mul, ← hf i, ← hg i]

theorem real_coe (r : ℝ) : IsReal (r : EReal) := by
  rw [IsReal, EReal.toReal_coe]

/-- Folding the query matrix and the scale into the keys does not change the score. -/
theorem score_folded (x : Fin 1024 → EReal) (wq : Fin 16 → Fin 64 → Fin 64 → EReal)
    (sk : Fin 16 → Fin 64 → Fin 16 → Fin 64 → EReal) (h : Fin 16) (p : Fin 64) (r : Fin 16)
    (hx : ∀ d, IsReal (x d)) (hq : ∀ h d e, IsReal (wq h d e)) (hk : ∀ h p r e, IsReal (sk h p r e)) :
    ∑ d, ((∑ e, sk h p r e * wq h d e) * ((1 / 8 : ℝ) : EReal)) * x (coord h d) = (score x wq sk h p r : EReal) := by
  have h1 (d : Fin 64) : (∑ e, sk h p r e * wq h d e) * ((1 / 8 : ℝ) : EReal)
      = (((∑ e, (sk h p r e).toReal * (wq h d e).toReal) * (1 / 8) : ℝ) : EReal) := by
    rw [sum_mul_real _ _ (hk h p r) (hq h d), EReal.coe_mul]
  simp only [h1]
  rw [sum_mul_real _ _ (fun d => real_coe _) fun d => hx _]
  refine congrArg _ ?_
  simp only [EReal.toReal_coe, score]
  simp only [Finset.sum_mul, Finset.mul_sum, Finset.sum_div]
  rw [Finset.sum_comm]
  exact Finset.sum_congr rfl fun e _ => Finset.sum_congr rfl fun d _ => by ring

/-- The query first, then the keys, then the scale: the score as it is defined. -/
theorem score_direct (x : Fin 1024 → EReal) (wq : Fin 16 → Fin 64 → Fin 64 → EReal)
    (sk : Fin 16 → Fin 64 → Fin 16 → Fin 64 → EReal) (h : Fin 16) (p : Fin 64) (r : Fin 16)
    (hx : ∀ d, IsReal (x d)) (hq : ∀ h d e, IsReal (wq h d e)) (hk : ∀ h p r e, IsReal (sk h p r e)) :
    Ideal.div (∑ e, sk h p r e * ∑ d, wq h d e * x (coord h d)) ((8 : ℝ) : EReal) = (score x wq sk h p r : EReal) := by
  have h1 (e : Fin 64) : ∑ d, wq h d e * x (coord h d)
      = ((∑ d, (wq h d e).toReal * (x (coord h d)).toReal : ℝ) : EReal) :=
    sum_mul_real _ _ (fun d => hq h d e) fun d => hx _
  simp only [h1]
  rw [sum_mul_real _ _ (hk h p r) fun e => real_coe _, div_real _ _ (by norm_num)]
  simp only [EReal.toReal_coe, score]

/-- The router's logit, summed in the extended reals. -/
theorem logit_sum (x : Fin 1024 → EReal) (wr : Fin 16 → Fin 64 → Fin 64 → EReal) (h : Fin 16) (p : Fin 64)
    (hx : ∀ d, IsReal (x d)) (hr : ∀ h d p, IsReal (wr h d p)) :
    ∑ d, wr h d p * x (coord h d) = (logit x wr h p : EReal) :=
  sum_mul_real _ _ (fun d => hr h d p) fun d => hx _

end Cert.Attention

end
-- ==== Proof.KernelValue.lean ====
/-
  The kernel's result after a run, over the extended reals, is the answer of `Cert.Attention`, where the tokens, the
  query and router matrices and the keys hold real numbers.
-/
module

public import proofs.«01_k».proof.Proof.Result
public import proofs.«01_k».proof.Proof.Attention

@[expose] public section

set_option maxRecDepth 16384

noncomputable section

namespace Cert.Result

open Idealize.ShloMosaic Idealize.ShloMosaic.TcCoe Idealize.SL.Sem Cert.KernelIdeal Cert.KernelIdeal.Gen
open Cert.Heads Cert.HostOps Cert.Attention Cert.Weights

/-- Row `s % 1024` of the block `s / 1024` of the tokens is token `s`. -/
theorem tile_apply (x : FVec Ideal S1x2048x1024 .f32) (s : Fin 2048) (d : Fin 1024) :
    tile x ⟨s.val / 1024, by omega⟩ (ix2 ⟨s.val % 1024, by omega⟩ d) = x (ix3 0 s d) := by
  refine congrArg (fun k => x (ix3 0 k d)) (Fin.ext ?_)
  change s.val / 1024 * 1024 + s.val % 1024 = s.val
  omega

/-- The body's entry on the arrays that the operations before the region leave. -/
theorem body_answer (x : FVec Ideal S1x2048x1024 .f32) (wq wr : FVec Ideal S16x64x64 .f32)
    (sk sv : FVec Ideal S16x64x16x64 .f32) (wo : FVec Ideal S1024x1024 .f32) (b : FVec Ideal S1024 .f32)
    (hx : ∀ i, IsReal (x i)) (hq : ∀ i, IsReal (wq i)) (hr : ∀ i, IsReal (wr i)) (hk : ∀ i, IsReal (sk i))
    (s : Fin 2048) (j : Fin 1024) :
    body (tile x ⟨s.val / 1024, by omega⟩) (router wr) (keys sk wq) (values sv) (projection wo) (offset b)
        (ix2 ⟨s.val % 1024, by omega⟩ j)
      = answer (fun d => x (ix3 0 s d)) (fun h d e => wq (ix3 h d e)) (fun h d p => wr (ix3 h d p))
          (fun h p r e => sk (ix4 h p r e)) (fun h p r e => sv (ix4 h p r e)) (fun j c => wo (ix2 j c))
          (fun j => b (ix1 j)) j := by
  rw [body_apply, offset_apply]
  refine congrArg (· + _) (Finset.sum_congr rfl fun c _ => ?_)
  rw [projection_apply, head_apply _ _ _ _ _ _ _
    (logit (fun d => x (ix3 0 s d)) (fun h d p => wr (ix3 h d p)) ⟨c.val / 64, by omega⟩)
    (score (fun d => x (ix3 0 s d)) (fun h d e => wq (ix3 h d e)) (fun h p r e => sk (ix4 h p r e)) ⟨c.val / 64, by omega⟩)]
  · refine congrArg (· * _) (Finset.sum_congr rfl fun p _ => Finset.sum_congr rfl fun r _ => ?_)
    rw [values_apply]
  · intro p
    simp only [router_apply, turn_apply, tile_apply]
    exact logit_sum _ (fun h d p => wr (ix3 h d p)) _ p (fun d => hx _) fun _ _ _ => hr _
  · intro p r
    simp only [keys_apply, turn_apply, tile_apply]
    exact score_folded _ (fun h d e => wq (ix3 h d e)) (fun h p r e => sk (ix4 h p r e)) _ p r (fun d => hx _)
      (fun _ _ _ => hq _) fun _ _ _ _ => hk _

end Cert.Result

end
-- ==== Proof.TopTwo.lean ====
/-
  The host's selection of the two largest entries along the last axis, and its gather along that axis, read at one
  index. The sizes are variables, so that each fact is about the operation and not about one program's shapes.
-/
module

public import proofs.«01_k».proof.Proof.Router
public import Idealize.ShloMosaic.Lib.Pointwise

@[expose] public section

noncomputable section

namespace Cert.TopTwo

open Idealize.ShloMosaic Cert.Router

/-- Moving along the last of four axes replaces the last coordinate. -/
theorem along_last {a b c n : Nat} (i : Fin a) (j : Fin b) (k : Fin c) (p q : Fin n) :
    Shape.Idx.along (s := ⟨4, ![a, b, c, n]⟩) (ix4 i j k p) (3 : Fin 4) q = ix4 i j k q := by
  funext z
  unfold Shape.Idx.along
  fin_cases z <;> rfl

/-- The place from which the stable sort by descending value takes the entry of rank `k`. -/
def from4 {a b c n : Nat} (x : FVec Ideal ⟨4, ![a, b, c, n]⟩ .f32) (i : Fin a) (j : Fin b) (k : Fin c) (p : Fin n) : Fin n :=
  sortedFrom (fun q q' => decide (x (ix4 i j k q') < x (ix4 i j k q))) p

theorem sort_last {a b c n : Nat} (x : FVec Ideal ⟨4, ![a, b, c, n]⟩ .f32) {β : Type}
    (y : (⟨4, ![a, b, c, n]⟩ : Shape).Idx → β) (i : Fin a) (j : Fin b) (k : Fin c) (p : Fin n) :
    (Host.sort2 ⟨4, ![a, b, c, n]⟩ 3 (fun l r => FloatOps.cmpfTotal (F := Ideal) (φ := .f32) .gt l.1 r.1) x y).1 (ix4 i j k p)
        = x (ix4 i j k (from4 x i j k p))
      ∧ (Host.sort2 ⟨4, ![a, b, c, n]⟩ 3 (fun l r => FloatOps.cmpfTotal (F := Ideal) (φ := .f32) .gt l.1 r.1) x y).2 (ix4 i j k p)
        = y (ix4 i j k (from4 x i j k p)) := by
  have hlt : 3 < (⟨4, ![a, b, c, n]⟩ : Shape).rank := show 3 < 4 by decide
  have hb : (fun q q' : Fin n => FloatOps.cmpfTotal (F := Ideal) (φ := .f32) .gt
        (x (Shape.Idx.along (s := ⟨4, ![a, b, c, n]⟩) (ix4 i j k p) (3 : Fin 4) q))
        (x (Shape.Idx.along (s := ⟨4, ![a, b, c, n]⟩) (ix4 i j k p) (3 : Fin 4) q')) == 1#1)
      = fun q q' => decide (x (ix4 i j k q') < x (ix4 i j k q)) := by
    funext q q'
    rw [along_last, along_last]
    show (BitVec.ofBool (decide _) == 1#1) = _
    cases h : decide (x (ix4 i j k q') < x (ix4 i j k q)) <;> rfl
  have hs : from4 x i j k p = sortedFrom (fun q q' : Fin n => FloatOps.cmpfTotal (F := Ideal) (φ := .f32) .gt
        (x (Shape.Idx.along (s := ⟨4, ![a, b, c, n]⟩) (ix4 i j k p) (3 : Fin 4) q))
        (x (Shape.Idx.along (s := ⟨4, ![a, b, c, n]⟩) (ix4 i j k p) (3 : Fin 4) q')) == 1#1) p := by
    rw [hb]; rfl
  rw [← along_last i j k p (from4 x i j k p), hs]
  unfold Host.sort2
  rw [dif_pos hlt]
  exact ⟨rfl, rfl⟩

/-- The largest entries along the last of four axes, and their places, as the stable sort ranks them. -/
theorem topK_last {a b c n m : Nat} (x : FVec Ideal ⟨4, ![a, b, c, n]⟩ .f32) (hm : m ≤ n)
    (h : (⟨4, ![a, b, c, n]⟩ : Shape).Slices (fun _ => 0) ⟨4, ![a, b, c, m]⟩) (i : Fin a) (j : Fin b) (k : Fin c) (p : Fin m) :
    (Host.topK ⟨4, ![a, b, c, m]⟩ 3 (FloatOps.cmpfTotal (F := Ideal) (φ := .f32) .gt) x h).1 (ix4 i j k p)
        = x (ix4 i j k (from4 x i j k (p.castLE hm)))
      ∧ (Host.topK ⟨4, ![a, b, c, m]⟩ 3 (FloatOps.cmpfTotal (F := Ideal) (φ := .f32) .gt) x h).2 (ix4 i j k p)
        = BitVec.ofNat 32 (from4 x i j k (p.castLE hm)).val := by
  have hix {α : Type} (v : (⟨4, ![a, b, c, n]⟩ : Shape).Idx → α) :
      extractStridedSlice ⟨4, ![a, b, c, m]⟩ (fun _ => 0) v h (ix4 i j k p) = v (ix4 i j k (p.castLE hm)) := by
    unfold extractStridedSlice
    refine congrArg v (funext fun z => ?_)
    fin_cases z <;> exact Fin.ext (Nat.zero_add _)
  have hs (y : IVec (⟨4, ![a, b, c, n]⟩ : Shape) 32) := sort_last x y i j k (p.castLE hm)
  unfold Host.topK
  dsimp only
  rw [hix, hix]
  refine ⟨(hs _).1, (hs _).2.trans ?_⟩
  rw [dif_pos (show 3 < (⟨4, ![a, b, c, n]⟩ : Shape).rank from show 3 < 4 by decide)]
  rfl

end Cert.TopTwo

end
-- ==== Proof.Softmax.lean ====
/-
  A softmax taken after subtracting the largest entry, over the extended reals, of finitely many real numbers.
-/
module

public import proofs.«01_k».proof.Proof.Weights

@[expose] public section

noncomputable section

namespace Cert.Softmax

open Idealize.ShloMosaic Cert.Weights

/-- The softmax of real numbers. -/
def softmax {n : Nat} (f : Fin n → ℝ) (i : Fin n) : ℝ := Real.exp (f i) / ∑ j, Real.exp (f j)

/-- The largest of finitely many real numbers, at least one, taken from minus infinity, is a real number. -/
theorem max_real {n : Nat} (f : Fin (n + 1) → ℝ) :
    ∃ M : ℝ, max ⊥ (Finset.univ.fold max ⊥ fun i => (f i : EReal)) = (M : EReal) := by
  obtain ⟨i, -, hi⟩ := Finset.exists_max_image Finset.univ f Finset.univ_nonempty
  refine ⟨f i, ?_⟩
  rw [max_eq_right bot_le]
  refine le_antisymm ?_ ?_
  · rw [Finset.fold_max_le]
    exact ⟨bot_le, fun j hj => EReal.coe_le_coe_iff.2 (hi j hj)⟩
  · rw [Finset.le_fold_max]
    exact Or.inr ⟨i, Finset.mem_univ i, le_rfl⟩

/-- The quotient of exponentials is the softmax, whatever real number is subtracted first. -/
theorem shifted {n : Nat} (f : Fin (n + 1) → ℝ) (M : ℝ) (i : Fin (n + 1)) :
    Ideal.div (Ideal.exp ((f i : EReal) - (M : EReal))) (∑ j, Ideal.exp ((f j : EReal) - (M : EReal)))
      = (softmax f i : EReal) := by
  have hexp (j : Fin (n + 1)) : Ideal.exp ((f j : EReal) - (M : EReal)) = ((Real.exp (f j) / Real.exp M : ℝ) : EReal) := by
    rw [← EReal.coe_sub, Ideal.exp_coe, Real.exp_sub]
  have hsum : 0 < ∑ j, Real.exp (f j) := Finset.sum_pos (fun j _ => Real.exp_pos _) Finset.univ_nonempty
  simp only [hexp]
  rw [coe_sum, ← Finset.sum_div, div_real _ _ (div_pos hsum (Real.exp_pos M)).ne']
  refine congrArg _ ?_
  rw [div_div_div_cancel_right₀ (Real.exp_pos M).ne', softmax]

/-- The softmax as the reference takes it. -/
theorem softmax_eq {n : Nat} (f : Fin (n + 1) → ℝ) (i : Fin (n + 1)) :
    Ideal.div (Ideal.exp ((f i : EReal) - max ⊥ (Finset.univ.fold max ⊥ fun i => (f i : EReal))))
        (∑ j, Ideal.exp ((f j : EReal) - max ⊥ (Finset.univ.fold max ⊥ fun i => (f i : EReal))))
      = (softmax f i : EReal) := by
  obtain ⟨M, hM⟩ := max_real f
  rw [hM, shifted]

end Cert.Softmax

end
-- ==== Proof.RefRouter.lean ====
/-
  The router of the reference: the logits, the two largest of a column with their places, the softmax of the two, and
  the scores that the gather takes at the two places, each read at one index.
-/
module

public import proofs.«01_k».proof.Proof.Gen.ReferenceIdeal.Read
public import proofs.«01_k».proof.Proof.Attention
public import proofs.«01_k».proof.Proof.TopTwo
public import proofs.«01_k».proof.Proof.Softmax
public import proofs.«01_k».proof.Proof.HostOps
public import Idealize.ShloMosaic.Lib.Pointwise

@[expose] public section

set_option maxRecDepth 16384

noncomputable section

namespace Cert.Ref

open Idealize.ShloMosaic Cert.ReferenceIdeal Cert.ReferenceIdeal.Gen Cert.ReferenceIdeal.Read
open Cert.Router Cert.Weights Cert.Attention Cert.Softmax

/-- Reading the gather where the start index names a row. -/
theorem gather_row (x : FVec Ideal S1x16x2048x64x16 .f32) (idx : IVec S16x2048x2x1 32) (h : Fin 16) (s : Fin 2048)
    (k : Fin 2) (r : Fin 16) (p : Fin 64) (hp : idx (ix4 h s k 0) = BitVec.ofNat 32 p.val) :
    Host.gather gather_S1x16x2048x64x16_S16x2048x2x1_S1x16x2048x2x16_04_3_12_01_3_3_111116 x idx (ix5 0 h s k r)
      = x (ix5 0 h s p r) := by
  unfold Host.gather
  refine congrArg x (funext fun z => Fin.ext ?_)
  unfold GatherDims.operandIdx
  dsimp only
  have hstart (a : Fin 5) (ha : a ≠ 3) :
      gather_S1x16x2048x64x16_S16x2048x2x1_S1x16x2048x2x16_04_3_12_01_3_3_111116.start (ix5 0 h s k r) idx a = 0 :=
    dif_neg (by simpa [gather_S1x16x2048x64x16_S16x2048x2x1_S1x16x2048x2x16_04_3_12_01_3_3_111116] using ha)
  have hrow :
      gather_S1x16x2048x64x16_S16x2048x2x1_S1x16x2048x2x16_04_3_12_01_3_3_111116.start (ix5 0 h s k r) idx 3 = p.val := by
    unfold GatherDims.start
    rw [dif_pos (by exact List.mem_singleton.2 rfl)]
    have hsi (c) : gather_S1x16x2048x64x16_S16x2048x2x1_S1x16x2048x2x16_04_3_12_01_3_3_111116.siIdx (ix5 0 h s k r) c
        = ix4 h s k 0 := by
      funext z
      fin_cases z
      · rfl
      · rfl
      · rfl
      · exact Subsingleton.elim (α := Fin 1) _ _
    rw [hsi, hp, toInt_row _ (by omega)]
    change min p.val (64 - 1) = p.val
    omega
  fin_cases z
  · rw [hstart _ (by decide)]; rfl
  · rw [hstart _ (by decide)]; exact Nat.zero_add _
  · rw [hstart _ (by decide)]; exact Nat.zero_add _
  · exact hrow
  · rw [hstart _ (by decide)]; exact Nat.zero_add _

section
variable (x0 : FVec Ideal S1x2048x1024 .f32) (x1 x2 : FVec Ideal S16x64x64 .f32) (x3 : FVec Ideal S16x64x16x64 .f32)

/-- A router logit of the reference. -/
theorem logits_apply (hx : ∀ i, IsReal (x0 i)) (hr : ∀ i, IsReal (x2 i)) (h : Fin 16) (s : Fin 2048) (p : Fin 64) :
    val_main_v5 (F := Ideal) x0 x2 (ix4 0 h s p)
      = col (logit (fun d => x0 (ix3 0 s d)) (fun h d p => x2 (ix3 h d p)) h) p := by
  refine Eq.trans ?_ (logit_sum _ (fun h d p => x2 (ix3 h d p)) h p (fun d => hx _) fun _ _ _ => hr _)
  pointwise [val_main_v5, val_main_v4, val_main_v1, val_main_v0]
  exact Finset.sum_congr rfl fun d _ => congrArg (fun c => _ * x0 (ix3 0 s c)) (Fin.ext (by simp only [coord]; omega))

/-- The column of logits of one token in one head. -/
abbrev column (h : Fin 16) (s : Fin 2048) : Fin 64 → ℝ :=
  logit (fun d => x0 (ix3 0 s d)) (fun h d p => x2 (ix3 h d p)) h

/-- The selection's two values and its two places. -/
theorem selected (hx : ∀ i, IsReal (x0 i)) (hr : ∀ i, IsReal (x2 i)) (h : Fin 16) (s : Fin 2048) (k : Fin 2) :
    val_main_values (F := Ideal) x0 x2 (ix4 0 h s k) = (column x0 x2 h s (pick (col (column x0 x2 h s)) k) : EReal)
      ∧ val_main_indices (F := Ideal) x0 x2 (ix4 0 h s k) = BitVec.ofNat 32 (pick (col (column x0 x2 h s)) k).val := by
  have hsel := TopTwo.topK_last (val_main_v5 (F := Ideal) x0 x2) (show 2 ≤ 64 by decide)
    sliceFits_S1x16x2048x64_S1x16x2048x2 0 h s k
  have hfrom : TopTwo.from4 (val_main_v5 (F := Ideal) x0 x2) 0 h s (k.castLE (show 2 ≤ 64 by decide))
      = pick (col (column x0 x2 h s)) k := by
    unfold TopTwo.from4
    simp only [logits_apply x0 x2 hx hr]
    exact sort_two _ (col_ne_bot _) _ k
  rw [hfrom, logits_apply x0 x2 hx hr] at hsel
  exact hsel

/-- The place of rank `k`, as the reference brings it into range: it is in range already. -/
theorem in_range (p : Fin 64) :
    Scalar.select (IntOp.cmpi CmpIPredicate.slt (BitVec.ofNat 32 p.val) 0#32)
      (IntOp.addi (BitVec.ofNat 32 p.val) 64#32) (BitVec.ofNat 32 p.val) = BitVec.ofNat 32 p.val
    ∧ IntOp.cmpi CmpIPredicate.sge (BitVec.ofNat 32 p.val) 0#32 = 1#1
    ∧ IntOp.cmpi CmpIPredicate.sle (BitVec.ofNat 32 p.val) 63#32 = 1#1 := by
  revert p
  decide +kernel

/-- The reference's gate is the softmax of the two selected logits. -/
theorem gate_apply (hx : ∀ i, IsReal (x0 i)) (hr : ∀ i, IsReal (x2 i)) (h : Fin 16) (s : Fin 2048) (k : Fin 2) :
    val_main_v16 (F := Ideal) x0 x2 (ix4 0 h s k)
      = (softmax (fun k => column x0 x2 h s (pick (col (column x0 x2 h s)) k)) k : EReal) := by
  refine Eq.trans ?_ (softmax_eq _ k)
  pointwise [val_main_v16, val_main_v15, val_main_v14, val_main_v13, val_main_cst_1, val_main_v12, val_main_v11,
    val_main_v10, val_main_v9, val_main_v8, val_main_v7, val_main_cst_0, val_main_v6, val_main_cst]
  simp only [negInf, (selected x0 x2 hx hr h s _).1]

/-- A score of the reference. -/
theorem scores_apply (hx : ∀ i, IsReal (x0 i)) (hq : ∀ i, IsReal (x1 i)) (hk : ∀ i, IsReal (x3 i)) (h : Fin 16)
    (s : Fin 2048) (p : Fin 64) (r : Fin 16) :
    val_main_v21 (F := Ideal) x0 x1 x3 (ix5 0 h s p r)
      = (score (fun d => x0 (ix3 0 s d)) (fun h d e => x1 (ix3 h d e)) (fun h p r e => x3 (ix4 h p r e)) h p r : EReal) := by
  refine Eq.trans ?_ (score_direct _ (fun h d e => x1 (ix3 h d e)) (fun h p r e => x3 (ix4 h p r e)) h p r
    (fun d => hx _) (fun _ _ _ => hq _) fun _ _ _ _ => hk _)
  pointwise [val_main_v21, val_main_v20, val_main_v19, val_main_cst_2, val_main_v18, val_main_v17, val_main_v3,
    val_main_v2, val_main_v1, val_main_v0]
  rw [HostOps.sqrt_64]
  refine congrArg (Ideal.div · _) (Finset.sum_congr rfl fun e _ => congrArg (_ * ·) (Finset.sum_congr rfl fun d _ => ?_))
  exact congrArg (fun c => _ * x0 (ix3 0 s c)) (Fin.ext (by simp only [coord]; omega))

/-- The scores of one token in one head. -/
abbrev slots (h : Fin 16) (s : Fin 2048) : Fin 64 → Fin 16 → ℝ :=
  score (fun d => x0 (ix3 0 s d)) (fun h d e => x1 (ix3 h d e)) (fun h p r e => x3 (ix4 h p r e)) h

/-- The gathered scores are the scores of the selected experts: each place is in range, so the gather's fill is not used. -/
theorem gathered (hx : ∀ i, IsReal (x0 i)) (hq : ∀ i, IsReal (x1 i)) (hr : ∀ i, IsReal (x2 i)) (hk : ∀ i, IsReal (x3 i))
    (h : Fin 16) (s : Fin 2048) (k : Fin 2) (r : Fin 16) :
    val_main_v23 (F := Ideal) x0 x1 x2 x3 (ix5 0 h s k r)
      = (slots x0 x1 x3 h s (pick (col (column x0 x2 h s)) k) r : EReal) := by
  have hsel := (selected x0 x2 hx hr h s k).2
  obtain ⟨hin, hge, hle⟩ := in_range (pick (col (column x0 x2 h s)) k)
  have hstart : val_main_call0_v5 (F := Ideal) x0 x2 (ix4 h s k 0)
      = BitVec.ofNat 32 (pick (col (column x0 x2 h s)) k).val := by
    pointwise [val_main_call0_v5, val_main_call0_v4, val_main_call0_v3, val_main_call0_v2, val_main_call0_v1,
      val_main_call0_v0, val_main_call0_c, val_main_call0_c_0, val_main_v22]
    rw [hsel, hin]
  have hg : val_main_call0_v13 (F := Ideal) x0 x1 x2 x3 (ix5 0 h s k r)
      = (slots x0 x1 x3 h s (pick (col (column x0 x2 h s)) k) r : EReal) := by
    unfold val_main_call0_v13
    rw [gather_row _ _ h s k r _ hstart, scores_apply x0 x1 x3 hx hq hk]
  have hmask : val_main_call0_v12 (F := Ideal) x0 x2 (ix3 h s k) = 1#1 := by
    pointwise [val_main_call0_v12, val_main_call0_v11, val_main_call0_v10, val_main_call0_v9, val_main_call0_v8,
      val_main_call0_v7, val_main_call0_v6, val_main_call0_c_1, val_main_call0_c_2, val_main_call0_c_3]
    have hfun : ∀ z : Fin 1, val_main_call0_v5 (F := Ideal) x0 x2 (ix4 h s k z)
        = BitVec.ofNat 32 (pick (col (column x0 x2 h s)) k).val := fun z => by rw [Subsingleton.elim z 0, hstart]
    simp only [hfun, hge, hle]
    decide
  pointwise [val_main_v23, val_main_call0_v14]
  rw [hmask, hg]
  rfl

/-- The exponential of a gathered score less the largest of its expert's. -/
theorem slot_exp (h : Fin 16) (s : Fin 2048) (k : Fin 2) (r : Fin 16) :
    val_main_v30 (F := Ideal) x0 x1 x2 x3 (ix5 0 h s k r)
      = Ideal.exp (val_main_v23 (F := Ideal) x0 x1 x2 x3 (ix5 0 h s k r)
          - max ⊥ (Finset.univ.fold max ⊥ fun r => val_main_v23 (F := Ideal) x0 x1 x2 x3 (ix5 0 h s k r))) := by
  rw [← negInf]
  pointwise [val_main_v30, val_main_v29, val_main_v28, val_main_v27, val_main_v26, val_main_v25, val_main_v24,
    val_main_cst_3, val_main_cst_4]

/-- The reference's weight of a slot among its expert's is the softmax of the expert's scores. -/
theorem slot_softmax (hx : ∀ i, IsReal (x0 i)) (hq : ∀ i, IsReal (x1 i)) (hr : ∀ i, IsReal (x2 i)) (hk : ∀ i, IsReal (x3 i))
    (h : Fin 16) (s : Fin 2048) (k : Fin 2) (r : Fin 16) :
    val_main_v34 (F := Ideal) x0 x1 x2 x3 (ix5 0 h s k r)
      = (softmax (slots x0 x1 x3 h s (pick (col (column x0 x2 h s)) k)) r : EReal) := by
  have hsum : val_main_v33 (F := Ideal) x0 x1 x2 x3 (ix5 0 h s k r)
      = ∑ r, val_main_v30 (F := Ideal) x0 x1 x2 x3 (ix5 0 h s k r) := by
    pointwise [val_main_v33, val_main_v32, val_main_v31, val_main_cst_5]
  refine Eq.trans ?_ (softmax_eq _ r)
  unfold val_main_v34
  refine (congrArg₂ Ideal.div (slot_exp x0 x1 x2 x3 h s k r) hsum).trans ?_
  simp only [slot_exp, gathered x0 x1 x2 x3 hx hq hr hk]

/-- The row of the one-hot matrix has 1 at the selected place and 0 elsewhere. -/
theorem one_hot (hx : ∀ i, IsReal (x0 i)) (hr : ∀ i, IsReal (x2 i)) (h : Fin 16) (s : Fin 2048) (k : Fin 2) (p : Fin 64) :
    val_main_v38 (F := Ideal) x0 x2 (ix5 0 h s k p)
      = (((if p = pick (col (column x0 x2 h s)) k then 1 else 0 : ℝ)) : EReal) := by
  pointwise [val_main_v38, val_main_call1_v4, val_main_call1_v3, val_main_call1_v2, val_main_call1_v1, val_main_call1_v0]
  rw [(selected x0 x2 hx hr h s k).2]
  have hw := row_eq_iff (pick (col (column x0 x2 h s)) k) p
  by_cases hp : p = pick (col (column x0 x2 h s)) k
  · rw [if_pos hp, hw.2 hp.symm]
    have h1 : IntOp.cmpi CmpIPredicate.eq (BitVec.ofNat 32 p.val) (BitVec.ofNat 32 p.val) = 1#1 := by simp [IntOp.cmpi]
    rw [h1]
    change (((1#1).toNat : ℝ) : EReal) = ((1 : ℝ) : EReal)
    norm_num
  · rw [if_neg hp]
    have hne : ¬ BitVec.ofNat 32 (pick (col (column x0 x2 h s)) k).val = BitVec.ofNat 32 p.val := fun e => hp (hw.1 e).symm
    have h0 : IntOp.cmpi CmpIPredicate.eq (BitVec.ofNat 32 (pick (col (column x0 x2 h s)) k).val) (BitVec.ofNat 32 p.val)
        = 0#1 := by simp only [IntOp.cmpi, beq_eq_false_iff_ne.2 hne]; rfl
    rw [h0]
    change (((0#1).toNat : ℝ) : EReal) = ((0 : ℝ) : EReal)
    norm_num

end

end Cert.Ref

end
-- ==== Proof.RefValue.lean ====
/-
  The reference's result, read at one index, is the answer of `Cert.Attention`, where the tokens, the query and router
  matrices and the keys hold real numbers.
-/
module

public import proofs.«01_k».proof.Proof.RefRouter

@[expose] public section

set_option maxRecDepth 16384

noncomputable section

namespace Cert.Ref

open Idealize.ShloMosaic Cert.ReferenceIdeal Cert.ReferenceIdeal.Gen Cert.ReferenceIdeal.Read
open Cert.Router Cert.Weights Cert.Attention Cert.Softmax

/-- The gate's sum over the two selected experts, each at its own place, is the expert's share: the softmax of the two
    largest logits is 1 and `ratio`, over their sum. -/
theorem weight_eq (l : Fin 64 → ℝ) (s : Fin 64 → Fin 16 → ℝ) (p : Fin 64) (r : Fin 16) :
    ∑ k, (if p = pick (col l) k then 1 else 0 : ℝ) * (softmax (s (pick (col l) k)) r * softmax (fun k => l (pick (col l) k)) k)
      = weight l s p r := by
  have h0 : pick (col l) 0 = top (col l) := rfl
  have h1 : pick (col l) 1 = next (col l) := rfl
  have hne := next_ne_top (col l) (col_ne_bot l)
  have hsum : Real.exp (l (top (col l))) + Real.exp (l (next (col l))) = Real.exp (l (top (col l))) * (1 + ratio l) := by
    rw [ratio, Real.exp_sub, mul_add, mul_one, mul_div_cancel₀ _ (Real.exp_pos _).ne']
  have hg0 : softmax (fun k => l (pick (col l) k)) 0 = 1 / (1 + ratio l) := by
    simp only [softmax, Fin.sum_univ_two, h0, h1]
    rw [hsum, div_mul_eq_div_div, div_self (Real.exp_pos _).ne']
  have hg1 : softmax (fun k => l (pick (col l) k)) 1 = ratio l / (1 + ratio l) := by
    simp only [softmax, Fin.sum_univ_two, h0, h1]
    rw [hsum, div_mul_eq_div_div, ratio, Real.exp_sub]
  rw [Fin.sum_univ_two, hg0, hg1, h0, h1, weight, share]
  have hs (q : Fin 64) : softmax (s q) r = Real.exp (s q r) / total s q := rfl
  rw [hs, hs]
  have hr := (one_add_ratio_pos l).ne'
  have ht := (total_pos s p).ne'
  by_cases hp : p = top (col l)
  · subst hp
    rw [if_pos rfl, if_pos rfl, if_neg hne.symm]
    field_simp
    ring
  · rw [if_neg hp, if_neg hp]
    by_cases hq : p = next (col l)
    · subst hq
      rw [if_pos rfl, if_pos rfl]
      field_simp
      ring
    · rw [if_neg hq, if_neg hq]
      simp

section
variable (x0 : FVec Ideal S1x2048x1024 .f32) (x1 x2 : FVec Ideal S16x64x64 .f32) (x3 x4 : FVec Ideal S16x64x16x64 .f32)
  (x5 : FVec Ideal S1024x1024 .f32) (x6 : FVec Ideal S1024 .f32)

/-- The weight of a slot, scattered to the experts' places. -/
theorem weights_apply (hx : ∀ i, IsReal (x0 i)) (hq : ∀ i, IsReal (x1 i)) (hr : ∀ i, IsReal (x2 i)) (hk : ∀ i, IsReal (x3 i))
    (h : Fin 16) (s : Fin 2048) (p : Fin 64) (r : Fin 16) :
    val_main_v39 (F := Ideal) x0 x1 x2 x3 (ix5 0 h s p r) = (weight (column x0 x2 h s) (slots x0 x1 x3 h s) p r : EReal) := by
  have hdot : val_main_v39 (F := Ideal) x0 x1 x2 x3 (ix5 0 h s p r)
      = ∑ k, val_main_v38 (F := Ideal) x0 x2 (ix5 0 h s k p)
          * (val_main_v34 (F := Ideal) x0 x1 x2 x3 (ix5 0 h s k r) * val_main_v16 (F := Ideal) x0 x2 (ix4 0 h s k)) := by
    pointwise [val_main_v39, val_main_v37, val_main_v36, val_main_v35]
  rw [hdot, ← weight_eq, ← coe_sum]
  refine Finset.sum_congr rfl fun k _ => ?_
  rw [one_hot x0 x2 hx hr, slot_softmax x0 x1 x2 x3 hx hq hr hk, gate_apply x0 x2 hx hr, EReal.coe_mul, EReal.coe_mul]

/-- A head's output for one token. -/
theorem heads_apply (hx : ∀ i, IsReal (x0 i)) (hq : ∀ i, IsReal (x1 i)) (hr : ∀ i, IsReal (x2 i)) (hk : ∀ i, IsReal (x3 i))
    (h : Fin 16) (s : Fin 2048) (e : Fin 64) :
    val_main_v40 (F := Ideal) x0 x1 x2 x3 x4 (ix4 h e 0 s)
      = attend (fun d => x0 (ix3 0 s d)) (fun h d e => x1 (ix3 h d e)) (fun h d p => x2 (ix3 h d p))
          (fun h p r e => x3 (ix4 h p r e)) (fun h p r e => x4 (ix4 h p r e)) h e := by
  have hdot : val_main_v40 (F := Ideal) x0 x1 x2 x3 x4 (ix4 h e 0 s)
      = ∑ p, ∑ r, x4 (ix4 h p r e) * val_main_v39 (F := Ideal) x0 x1 x2 x3 (ix5 0 h s p r) := by
    pointwise [val_main_v40]
  rw [hdot]
  exact Finset.sum_congr rfl fun p _ => Finset.sum_congr rfl fun r _ =>
    congrArg (_ * ·) (weights_apply x0 x1 x2 x3 hx hq hr hk h s p r)

/-- The reference's result. -/
theorem result_answer (hx : ∀ i, IsReal (x0 i)) (hq : ∀ i, IsReal (x1 i)) (hr : ∀ i, IsReal (x2 i)) (hk : ∀ i, IsReal (x3 i))
    (s : Fin 2048) (j : Fin 1024) :
    val_main_v49 (F := Ideal) x0 x1 x2 x3 x4 x5 x6 (ix2 s j)
      = answer (fun d => x0 (ix3 0 s d)) (fun h d e => x1 (ix3 h d e)) (fun h d p => x2 (ix3 h d p))
          (fun h p r e => x3 (ix4 h p r e)) (fun h p r e => x4 (ix4 h p r e)) (fun j c => x5 (ix2 j c))
          (fun j => x6 (ix1 j)) j := by
  have hout : val_main_v49 (F := Ideal) x0 x1 x2 x3 x4 x5 x6 (ix2 s j)
      = (∑ c : Fin 1024, val_main_v40 (F := Ideal) x0 x1 x2 x3 x4
          (ix4 ⟨c.val / 64, by omega⟩ ⟨c.val % 64, by omega⟩ 0 s) * x5 (ix2 j c)) + x6 (ix1 j) := by
    pointwise [val_main_v49, val_main_v48, val_main_v47, val_main_v46, val_main_v45, val_main_v44, val_main_v43,
      val_main_v42, val_main_v41]
  rw [hout]
  exact congrArg (· + _) (Finset.sum_congr rfl fun c _ =>
    congrArg (· * _) (heads_apply x0 x1 x2 x3 x4 hx hq hr hk ⟨c.val / 64, by omega⟩ s ⟨c.val % 64, by omega⟩))

end

end Cert.Ref

end
-- ==== Proof.Finite.lean ====
/-
  What the precondition says: the tokens, the query and router matrices and the keys hold real numbers.
-/
module

public import proofs.«01_k».proof.Defs
public import proofs.«01_k».proof.Proof.Attention
public import Idealize.ShloMosaic.Lib.Pointwise

@[expose] public section

set_option maxRecDepth 16384

noncomputable section

namespace Cert.Finite

open Idealize.ShloMosaic Idealize.SL.Sem Cert.Attention

/-- The shape relations that the precondition states. -/
theorem facts : Cert.Pre_finite_inputs.Facts where
  bcast_S_S1x2048x1024 := by decide
  bcast_S_S16x64x64 := by decide
  bcast_S_S16x64x16x64 := by decide

/-- The word that the precondition compares with is infinity. -/
theorem posInf : Ideal.ofBits FTy.f32 0x7F800000#32 = ⊤ := by
  simp [Ideal.ofBits, Ideal.ieee, -EReal.coe_mul]

/-- An entry whose magnitude is below infinity is a real number. -/
theorem isReal_of_lt (x : EReal) (h : Ideal.cmp .olt (max x (-x)) (Ideal.ofBits FTy.f32 0x7F800000#32) = 1#1) : IsReal x := by
  rw [posInf] at h
  have hlt : max x (-x) < ⊤ := by
    by_contra hn
    have h0 : Ideal.cmp .olt (max x (-x)) ⊤ = 0#1 := by
      change BitVec.ofBool (decide (max x (-x) < ⊤)) = 0#1
      rw [decide_eq_false hn]; rfl
    rw [h0] at h
    exact absurd h (by decide)
  rw [max_lt_iff] at hlt
  refine (EReal.coe_toReal hlt.1.ne ?_).symm
  rintro rfl
  exact absurd hlt.2 (by simp)

/-- An array that passes the test holds real numbers. -/
theorem isReal_of_test {s : Shape} (x : FVec Ideal s .f32) (b : (⟨0, ![]⟩ : Shape).BroadcastsInDim s (![] : Fin 0 → Fin s.rank))
    (h : cmpf .olt (Host.absf x) (broadcastInDim s ![] b (constant ⟨0, ![]⟩ .f32 0x7F800000#32)) = fun _ => 1#1) (i : s.Idx) :
    IsReal (x i) :=
  isReal_of_lt _ (congrFun h i)

variable (m : (ℓ : Loc Cert.KernelIdeal.nD Cert.KernelIdeal.τ Cert.KernelIdeal.sig) → Buf (Elt Ideal) ℓ)

/-- The four arrays of the precondition hold real numbers. -/
theorem isReal_args (h : Cert.Pre_KernelIdeal_finite_inputs (hPre_finite_inputs := facts) m) (c : Dev Cert.KernelIdeal.nD) :
    (∀ i : Cert.KernelIdeal.S1x2048x1024.Idx, IsReal (m ((c.tc : Thread Cert.KernelIdeal.nD Cert.KernelIdeal.τ).loc Cert.KernelIdeal.main_arg0) i))
    ∧ (∀ i : Cert.KernelIdeal.S16x64x64.Idx, IsReal (m ((c.tc : Thread Cert.KernelIdeal.nD Cert.KernelIdeal.τ).loc Cert.KernelIdeal.main_arg1) i))
    ∧ (∀ i : Cert.KernelIdeal.S16x64x64.Idx, IsReal (m ((c.tc : Thread Cert.KernelIdeal.nD Cert.KernelIdeal.τ).loc Cert.KernelIdeal.main_arg2) i))
    ∧ (∀ i : Cert.KernelIdeal.S16x64x16x64.Idx, IsReal (m ((c.tc : Thread Cert.KernelIdeal.nD Cert.KernelIdeal.τ).loc Cert.KernelIdeal.main_arg3) i)) := by
  obtain ⟨h0, h1, h2, h3⟩ := h c
  exact ⟨isReal_of_test _ _ h0, isReal_of_test _ _ h1, isReal_of_test _ _ h2, isReal_of_test _ _ h3⟩

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.Finite
public import Idealize.ShloMosaic.Adequacy
public import Idealize.ShloMosaic.Init

@[expose] public section

noncomputable section

namespace Cert.Proof

open Idealize.ShloMosaic Idealize.SL.Sem

/-- Over the extended reals the kernel's result is the reference's, where the tokens, the query and router matrices and
    the keys hold real numbers. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hm : Cert.Pre_KernelIdeal_finite_inputs (hPre_finite_inputs := Cert.Finite.facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v49 m' c = Cert.Result.result m c := by
  obtain ⟨hx, hq, hr, hk⟩ := Cert.Finite.isReal_args m hm c
  rw [Cert.ReferenceIdeal.Read.val_main_v49_eq, h0, h1, h2, h3, h4, h5, h6]
  funext i
  rw [eq_ix2 (n0 := 2048) (n1 := 1024) i]
  refine (Cert.Ref.result_answer _ _ _ _ _ _ _ hx hq hr hk _ _).trans ?_
  exact ((Cert.Result.result_apply m c _ _).trans (Cert.Result.body_answer _ _ _ _ _ _ _ hx hq hr hk _ _)).symm

/-- The reference terminates and leaves its arguments; it declares no semaphore, so every counter is zero. -/
theorem reference_frame : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run m ρ)

/-- The five claims: the three frames, the kernel's reading over the extended reals, and the equality of the results. -/
theorem claim : Cert.Claim := by
  refine ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ True.intro, trivial, ?_⟩
  intro m ρ m' ρ' hm hargs
  refine ⟨Cert.Result.result m, Cert.KernelIdeal.Value.run_blocks m ρ,
    (θ_run _ _ _).mono (fun r h c => ⟨(h c).1.trans ?_, (h c).2⟩) (Cert.ReferenceIdeal.Value.run m' ρ')⟩
  obtain ⟨h0, h1, h2, h3, h4, h5, h6⟩ := hargs c
  exact result_eq m m' hm c h0 h1 h2 h3 h4 h5 h6

end Cert.Proof

end
